-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_latent_rows [hKernel2Ideal : Cert.Kernel2Ideal.Facts] [hReference2Ideal : Cert.Reference2Ideal.Facts] [hOn_latent_rows : Cert.On_latent_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![8, 4352, 6656]⟩ : Shape).Idx, (Cert.On_latent_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Kernel2Ideal.nD Cert.Kernel2Ideal.τ).loc Cert.Kernel2Ideal.main_v8_0) i = v0 c i)
          ∧ (∀ i : (⟨3, ![8, 4352, 128]⟩ : Shape).Idx, (Cert.On_latent_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Kernel2Ideal.nD Cert.Kernel2Ideal.τ).loc Cert.Kernel2Ideal.main_v8_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![8, 4352, 6656]⟩ : Shape).Idx, (Cert.On_latent_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Reference2Ideal.nD Cert.Reference2Ideal.τ).loc Cert.Reference2Ideal.main_v30) i = v0 c i)
          ∧ (∀ i : (⟨3, ![8, 4352, 128]⟩ : Shape).Idx, (Cert.On_latent_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Reference2Ideal.nD Cert.Reference2Ideal.τ).loc Cert.Reference2Ideal.main_v32) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hOn_latent_rows : Cert.On_latent_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_latent_rows (hKernel2Ideal := hKernel2Ideal) (hReference2Ideal := hReference2Ideal) (hOn_latent_rows := hOn_latent_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_latent_rows.lean ====
abbrev S8x4096x1024 : Shape := ⟨3, ![8, 4096, 1024]⟩
abbrev S8x1x1024 : Shape := ⟨3, ![8, 1, 1024]⟩
abbrev S1024x6688 : Shape := ⟨2, ![1024, 6688]⟩
abbrev S8x4352x1 : Shape := ⟨3, ![8, 4352, 1]⟩
abbrev S_ : Shape := ⟨0, ![]⟩
abbrev S8x4352x6656 : Shape := ⟨3, ![8, 4352, 6656]⟩
abbrev S8x4352x128 : Shape := ⟨3, ![8, 4352, 128]⟩

class Facts : Prop where
  bcast_S_S8x4352x1 : S_.BroadcastsInDim S8x4352x1 (![] : Fin 0 → Fin S8x4352x1.rank)
  bcast_S8x4352x1_S8x4352x6656_0_1_2 : S8x4352x1.BroadcastsInDim S8x4352x6656 (![0, 1, 2] : Fin 3 → Fin S8x4352x6656.rank)
  bcast_S8x4352x1_S8x4352x128_0_1_2 : S8x4352x1.BroadcastsInDim S8x4352x128 (![0, 1, 2] : Fin 3 → Fin S8x4352x128.rank)

variable [Facts]

def fn {F : FTy → Type} [FloatOps F] (main_arg0 : FVec F S8x4096x1024 .f32) (main_arg1 : FVec F S8x1x1024 .f32) (main_arg2 : FVec F S8x1x1024 .f32) (main_arg3 : FVec F S1024x6688 .f32) : IVec S8x4352x6656 1 × IVec S8x4352x128 1 :=
  let main_v0 : IVec S8x4352x1 32 := iotaInDim S8x4352x1 32 1
  let main_c : IVec S_ 32 := constantI S_ 32 4096#32
  let main_v1 : IVec S8x4352x1 32 := broadcastInDim S8x4352x1 ![] bcast_S_S8x4352x1 main_c
  let main_v2 : IVec S8x4352x1 1 := cmpi .slt main_v0 main_v1
  let main_v3 : IVec S8x4352x6656 1 := broadcastInDim S8x4352x6656 ![0, 1, 2] bcast_S8x4352x1_S8x4352x6656_0_1_2 main_v2
  let main_v4 : IVec S8x4352x128 1 := broadcastInDim S8x4352x128 ![0, 1, 2] bcast_S8x4352x1_S8x4352x128_0_1_2 main_v2
  (main_v3, main_v4)
-- ==== Kernel.lean ====
abbrev S2x8x68x64x1024 : Shape := ⟨5, ![2, 8, 68, 64, 1024]⟩
abbrev S2x8x68x128x1024 : Shape := ⟨5, ![2, 8, 68, 128, 1024]⟩
abbrev S2x8x68x8x64x64 : Shape := ⟨6, ![2, 8, 68, 8, 64, 64]⟩
abbrev S2x8x68x1x1024 : Shape := ⟨5, ![2, 8, 68, 1, 1024]⟩
abbrev S8x4096x1024 : Shape := ⟨3, ![8, 4096, 1024]⟩
abbrev S1x2x1x64x1024 : Shape := ⟨5, ![1, 2, 1, 64, 1024]⟩
abbrev S1x2x1x128x1024 : Shape := ⟨5, ![1, 2, 1, 128, 1024]⟩
abbrev S1x2x1x8x64x64 : Shape := ⟨6, ![1, 2, 1, 8, 64, 64]⟩
abbrev S1x2x1x1x1024 : Shape := ⟨5, ![1, 2, 1, 1, 1024]⟩
abbrev S2x64x1024 : Shape := ⟨3, ![2, 64, 1024]⟩
abbrev S32x128x128 : Shape := ⟨3, ![32, 128, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x1x1x64x128 : Shape := ⟨5, ![1, 1, 1, 64, 128]⟩
abbrev S64x128 : Shape := ⟨2, ![64, 128]⟩
abbrev S1x1x1x1x64x64 : Shape := ⟨6, ![1, 1, 1, 1, 64, 64]⟩
abbrev S64x64 : Shape := ⟨2, ![64, 64]⟩
abbrev S1x1x1x1x128 : Shape := ⟨5, ![1, 1, 1, 1, 128]⟩
abbrev S1x128 : Shape := ⟨2, ![1, 128]⟩
abbrev S1x64x128 : Shape := ⟨3, ![1, 64, 128]⟩

abbrev nBuf : Space → Nat
  | .hbm => 7
  | .vmem => 25
  | .smem => 0
  | _ => 0

abbrev bufTy : (tb : Table) → Fin (tcTables nBuf tb) → BufTy
  | .hbm, ⟨0, _⟩ => ⟨S2x8x68x64x1024, .bf16⟩
  | .hbm, ⟨1, _⟩ => ⟨S2x8x68x128x1024, .bf16⟩
  | .hbm, ⟨2, _⟩ => ⟨S2x8x68x64x1024, .bf16⟩
  | .hbm, ⟨3, _⟩ => ⟨S2x8x68x8x64x64, .bf16⟩
  | .hbm, ⟨4, _⟩ => ⟨S2x8x68x1x1024, .f32⟩
  | .hbm, ⟨5, _⟩ => ⟨S8x4096x1024, .bf16⟩
  | .hbm, ⟨6, _⟩ => ⟨S8x4096x1024, .bf16⟩
  | .local _ .vmem, ⟨0, _⟩ => ⟨S1x2x1x64x1024, .bf16⟩
  | .local _ .vmem, ⟨1, _⟩ => ⟨S1x2x1x64x1024, .bf16⟩
  | .local _ .vmem, ⟨2, _⟩ => ⟨S1x2x1x64x1024, .bf16⟩
  | .local _ .vmem, ⟨3, _⟩ => ⟨S1x2x1x64x1024, .bf16⟩
  | .local _ .vmem, ⟨4, _⟩ => ⟨S1x2x1x128x1024, .bf16⟩
  | .local _ .vmem, ⟨5, _⟩ => ⟨S1x2x1x128x1024, .bf16⟩
  | .local _ .vmem, ⟨6, _⟩ => ⟨S1x2x1x128x1024, .bf16⟩
  | .local _ .vmem, ⟨7, _⟩ => ⟨S1x2x1x128x1024, .bf16⟩
  | .local _ .vmem, ⟨8, _⟩ => ⟨S1x2x1x64x1024, .bf16⟩
  | .local _ .vmem, ⟨9, _⟩ => ⟨S1x2x1x64x1024, .bf16⟩
  | .local _ .vmem, ⟨10, _⟩ => ⟨S1x2x1x64x1024, .bf16⟩
  | .local _ .vmem, ⟨11, _⟩ => ⟨S1x2x1x64x1024, .bf16⟩
  | .local _ .vmem, ⟨12, _⟩ => ⟨S1x2x1x8x64x64, .bf16⟩
  | .local _ .vmem, ⟨13, _⟩ => ⟨S1x2x1x8x64x64, .bf16⟩
  | .local _ .vmem, ⟨14, _⟩ => ⟨S1x2x1x8x64x64, .bf16⟩
  | .local _ .vmem, ⟨15, _⟩ => ⟨S1x2x1x8x64x64, .bf16⟩
  | .local _ .vmem, ⟨16, _⟩ => ⟨S1x2x1x1x1024, .f32⟩
  | .local _ .vmem, ⟨17, _⟩ => ⟨S1x2x1x1x1024, .f32⟩
  | .local _ .vmem, ⟨18, _⟩ => ⟨S1x2x1x1x1024, .f32⟩
  | .local _ .vmem, ⟨19, _⟩ => ⟨S1x2x1x1x1024, .f32⟩
  | .local _ .vmem, ⟨20, _⟩ => ⟨S2x64x1024, .bf16⟩
  | .local _ .vmem, ⟨21, _⟩ => ⟨S2x64x1024, .bf16⟩
  | .local _ .vmem, ⟨22, _⟩ => ⟨S2x64x1024, .bf16⟩
  | .local _ .vmem, ⟨23, _⟩ => ⟨S2x64x1024, .bf16⟩
  | .local _ .vmem, ⟨24, _⟩ => ⟨S32x128x128, .f32⟩
  | _, _ => ⟨S2x8x68x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 68], ![false, false]⟩

def cc0_transform_0 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  let c0_i32_2 : BitVec 32 := 0#32
  let c0_i32_3 : BitVec 32 := 0#32
  ![c0_i32.toNat, arg0.toNat, v3.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c1_i32 : BitVec 32 := 1#32
  let c0_i32 : BitVec 32 := 0#32
  let c0_i32_0 : BitVec 32 := 0#32
  let c0_i32_1 : BitVec 32 := 0#32
  ![c1_i32.toNat, arg0.toNat, v0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  let c0_i32_2 : BitVec 32 := 0#32
  let c0_i32_3 : BitVec 32 := 0#32
  ![c0_i32.toNat, arg0.toNat, v3.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c1_i32 : BitVec 32 := 1#32
  let c0_i32 : BitVec 32 := 0#32
  let c0_i32_0 : BitVec 32 := 0#32
  let c0_i32_1 : BitVec 32 := 0#32
  ![c1_i32.toNat, arg0.toNat, v0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  let c0_i32_2 : BitVec 32 := 0#32
  let c0_i32_3 : BitVec 32 := 0#32
  ![c0_i32.toNat, arg0.toNat, v3.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c1_i32 : BitVec 32 := 1#32
  let c0_i32 : BitVec 32 := 0#32
  let c0_i32_0 : BitVec 32 := 0#32
  let c0_i32_1 : BitVec 32 := 0#32
  ![c1_i32.toNat, arg0.toNat, v0.toNat, c0_i32.toNat, c0_i32_0.toNat]

def cc0_transform_6 (i : grid0.Coords) : Fin 6 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, v3.toNat, c0_i32_1.toNat, c0_i32_2.toNat, c0_i32_3.toNat]

def cc0_transform_7 (i : grid0.Coords) : Fin 6 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, v0.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  let c0_i32_2 : BitVec 32 := 0#32
  let c0_i32_3 : BitVec 32 := 0#32
  ![c0_i32.toNat, arg0.toNat, v3.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c1_i32 : BitVec 32 := 1#32
  let c0_i32 : BitVec 32 := 0#32
  let c0_i32_0 : BitVec 32 := 0#32
  let c0_i32_1 : BitVec 32 := 0#32
  ![c1_i32.toNat, arg0.toNat, v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

abbrev stage0_0 : Fin 2 → Memref sig .tc .vmem S1x2x1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x8x64x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x8x64x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x8x68x64x1024 : Shape := ⟨5, ![2, 8, 68, 64, 1024]⟩
abbrev S2x8x68x128x1024 : Shape := ⟨5, ![2, 8, 68, 128, 1024]⟩
abbrev S2x8x68x8x64x64 : Shape := ⟨6, ![2, 8, 68, 8, 64, 64]⟩
abbrev S2x8x68x1x1024 : Shape := ⟨5, ![2, 8, 68, 1, 1024]⟩
abbrev S1x8x4x64x1024 : Shape := ⟨5, ![1, 8, 4, 64, 1024]⟩
abbrev S8x4x64x1024 : Shape := ⟨4, ![8, 4, 64, 1024]⟩
abbrev S1x8x64x64x1024 : Shape := ⟨5, ![1, 8, 64, 64, 1024]⟩
abbrev S8x64x64x1024 : Shape := ⟨4, ![8, 64, 64, 1024]⟩
abbrev S8x68x64x1024 : Shape := ⟨4, ![8, 68, 64, 1024]⟩
abbrev S1x8x68x64x1024 : Shape := ⟨5, ![1, 8, 68, 64, 1024]⟩
abbrev S68x2x8x64x1024 : Shape := ⟨5, ![68, 2, 8, 64, 1024]⟩
abbrev S1x8x4x1x1024 : Shape := ⟨5, ![1, 8, 4, 1, 1024]⟩
abbrev S8x4x1x1024 : Shape := ⟨4, ![8, 4, 1, 1024]⟩
abbrev S1x8x64x1x1024 : Shape := ⟨5, ![1, 8, 64, 1, 1024]⟩
abbrev S8x64x1x1024 : Shape := ⟨4, ![8, 64, 1, 1024]⟩
abbrev S8x68x1x1024 : Shape := ⟨4, ![8, 68, 1, 1024]⟩
abbrev S1x8x68x1x1024 : Shape := ⟨5, ![1, 8, 68, 1, 1024]⟩
abbrev S68x2x8x1x1024 : Shape := ⟨5, ![68, 2, 8, 1, 1024]⟩
abbrev S1x8x4x8x64x64 : Shape := ⟨6, ![1, 8, 4, 8, 64, 64]⟩
abbrev S8x4x8x64x64 : Shape := ⟨5, ![8, 4, 8, 64, 64]⟩
abbrev S1x8x64x8x64x64 : Shape := ⟨6, ![1, 8, 64, 8, 64, 64]⟩
abbrev S8x64x8x64x64 : Shape := ⟨5, ![8, 64, 8, 64, 64]⟩
abbrev S8x68x8x64x64 : Shape := ⟨5, ![8, 68, 8, 64, 64]⟩
abbrev S1x8x68x8x64x64 : Shape := ⟨6, ![1, 8, 68, 8, 64, 64]⟩
abbrev S68x2x8x8x64x64 : Shape := ⟨6, ![68, 2, 8, 8, 64, 64]⟩
abbrev S68x2x8x64x8x128 : Shape := ⟨6, ![68, 2, 8, 64, 8, 128]⟩
abbrev S68x2x8x8x64x128 : Shape := ⟨6, ![68, 2, 8, 8, 64, 128]⟩
abbrev S68x2x8x1x8x128 : Shape := ⟨6, ![68, 2, 8, 1, 8, 128]⟩
abbrev S68x2x8x8x1x128 : Shape := ⟨6, ![68, 2, 8, 8, 1, 128]⟩
abbrev S_ : Shape := ⟨0, ![]⟩
abbrev S2x8x8x128x128 : Shape := ⟨5, ![2, 8, 8, 128, 128]⟩
abbrev S1x2x8x8x64x128 : Shape := ⟨6, ![1, 2, 8, 8, 64, 128]⟩
abbrev S2x8x8x64x128 : Shape := ⟨5, ![2, 8, 8, 64, 128]⟩
abbrev S1x2x8x8x1x128 : Shape := ⟨6, ![1, 2, 8, 8, 1, 128]⟩
abbrev S2x8x8x1x128 : Shape := ⟨5, ![2, 8, 8, 1, 128]⟩
abbrev S1x2x8x8x64x64 : Shape := ⟨6, ![1, 2, 8, 8, 64, 64]⟩
abbrev S2x8x8x64x64 : Shape := ⟨5, ![2, 8, 8, 64, 64]⟩
abbrev S64x2x8x8x64x128 : Shape := ⟨6, ![64, 2, 8, 8, 64, 128]⟩
abbrev S2x8x64x64x8x128 : Shape := ⟨6, ![2, 8, 64, 64, 8, 128]⟩
abbrev S2x8x64x64x1024 : Shape := ⟨5, ![2, 8, 64, 64, 1024]⟩
abbrev S8x4096x1024 : Shape := ⟨3, ![8, 4096, 1024]⟩

abbrev nBuf : Space → Nat
  | .hbm => 182
  | .vmem => 0
  | .smem => 0
  | _ => 0

abbrev hbmTy0_0 (i : Nat) : BufTy := match i % 128 with
  | 0 => ⟨S2x8x68x64x1024, .bf16⟩
  | 1 => ⟨S2x8x68x128x1024, .bf16⟩
  | 2 => ⟨S2x8x68x64x1024, .bf16⟩
  | 3 => ⟨S2x8x68x8x64x64, .bf16⟩
  | 4 => ⟨S2x8x68x1x1024, .f32⟩
  | 5 => ⟨S2x8x68x64x1024, .bf16⟩
  | 6 => ⟨S2x8x68x64x1024, .bf16⟩
  | 7 => ⟨S2x8x68x64x1024, .f32⟩
  | 8 => ⟨S1x8x4x64x1024, .f32⟩
  | 9 => ⟨S8x4x64x1024, .f32⟩
  | 10 => ⟨S1x8x64x64x1024, .f32⟩
  | 11 => ⟨S8x64x64x1024, .f32⟩
  | 12 => ⟨S8x68x64x1024, .f32⟩
  | 13 => ⟨S1x8x68x64x1024, .f32⟩
  | 14 => ⟨S8x68x64x1024, .f32⟩
  | 15 => ⟨S8x68x64x1024, .f32⟩
  | 16 => ⟨S1x8x68x64x1024, .f32⟩
  | 17 => ⟨S1x8x68x64x1024, .f32⟩
  | 18 => ⟨S2x8x68x64x1024, .f32⟩
  | 19 => ⟨S68x2x8x64x1024, .f32⟩
  | 20 => ⟨S2x8x68x64x1024, .f32⟩
  | 21 => ⟨S1x8x4x64x1024, .f32⟩
  | 22 => ⟨S8x4x64x1024, .f32⟩
  | 23 => ⟨S1x8x64x64x1024, .f32⟩
  | 24 => ⟨S8x64x64x1024, .f32⟩
  | 25 => ⟨S8x68x64x1024, .f32⟩
  | 26 => ⟨S1x8x68x64x1024, .f32⟩
  | 27 => ⟨S8x68x64x1024, .f32⟩
  | 28 => ⟨S8x68x64x1024, .f32⟩
  | 29 => ⟨S1x8x68x64x1024, .f32⟩
  | 30 => ⟨S1x8x68x64x1024, .f32⟩
  | 31 => ⟨S2x8x68x64x1024, .f32⟩
  | 32 => ⟨S68x2x8x64x1024, .f32⟩
  | 33 => ⟨S2x8x68x64x1024, .f32⟩
  | 34 => ⟨S1x8x4x64x1024, .f32⟩
  | 35 => ⟨S8x4x64x1024, .f32⟩
  | 36 => ⟨S1x8x64x64x1024, .f32⟩
  | 37 => ⟨S8x64x64x1024, .f32⟩
  | 38 => ⟨S8x68x64x1024, .f32⟩
  | 39 => ⟨S1x8x68x64x1024, .f32⟩
  | 40 => ⟨S8x68x64x1024, .f32⟩
  | 41 => ⟨S8x68x64x1024, .f32⟩
  | 42 => ⟨S1x8x68x64x1024, .f32⟩
  | 43 => ⟨S1x8x68x64x1024, .f32⟩
  | 44 => ⟨S2x8x68x64x1024, .f32⟩
  | 45 => ⟨S68x2x8x64x1024, .f32⟩
  | 46 => ⟨S1x8x4x1x1024, .f32⟩
  | 47 => ⟨S8x4x1x1024, .f32⟩
  | 48 => ⟨S1x8x64x1x1024, .f32⟩
  | 49 => ⟨S8x64x1x1024, .f32⟩
  | 50 => ⟨S8x68x1x1024, .f32⟩
  | 51 => ⟨S1x8x68x1x1024, .f32⟩
  | 52 => ⟨S8x68x1x1024, .f32⟩
  | 53 => ⟨S8x68x1x1024, .f32⟩
  | 54 => ⟨S1x8x68x1x1024, .f32⟩
  | 55 => ⟨S1x8x68x1x1024, .f32⟩
  | 56 => ⟨S2x8x68x1x1024, .f32⟩
  | 57 => ⟨S68x2x8x1x1024, .f32⟩
  | 58 => ⟨S2x8x68x64x1024, .f32⟩
  | 59 => ⟨S1x8x4x64x1024, .f32⟩
  | 60 => ⟨S8x4x64x1024, .f32⟩
  | 61 => ⟨S1x8x64x64x1024, .f32⟩
  | 62 => ⟨S8x64x64x1024, .f32⟩
  | 63 => ⟨S8x68x64x1024, .f32⟩
  | 64 => ⟨S1x8x68x64x1024, .f32⟩
  | 65 => ⟨S8x68x64x1024, .f32⟩
  | 66 => ⟨S8x68x64x1024, .f32⟩
  | 67 => ⟨S1x8x68x64x1024, .f32⟩
  | 68 => ⟨S1x8x68x64x1024, .f32⟩
  | 69 => ⟨S2x8x68x64x1024, .f32⟩
  | 70 => ⟨S68x2x8x64x1024, .f32⟩
  | 71 => ⟨S2x8x68x8x64x64, .f32⟩
  | 72 => ⟨S1x8x4x8x64x64, .f32⟩
  | 73 => ⟨S8x4x8x64x64, .f32⟩
  | 74 => ⟨S1x8x64x8x64x64, .f32⟩
  | 75 => ⟨S8x64x8x64x64, .f32⟩
  | 76 => ⟨S8x68x8x64x64, .f32⟩
  | 77 => ⟨S1x8x68x8x64x64, .f32⟩
  | 78 => ⟨S8x68x8x64x64, .f32⟩
  | 79 => ⟨S8x68x8x64x64, .f32⟩
  | 80 => ⟨S1x8x68x8x64x64, .f32⟩
  | 81 => ⟨S1x8x68x8x64x64, .f32⟩
  | 82 => ⟨S2x8x68x8x64x64, .f32⟩
  | 83 => ⟨S68x2x8x8x64x64, .f32⟩
  | 84 => ⟨S68x2x8x64x8x128, .f32⟩
  | 85 => ⟨S68x2x8x8x64x128, .f32⟩
  | 86 => ⟨S68x2x8x64x8x128, .f32⟩
  | 87 => ⟨S68x2x8x8x64x128, .f32⟩
  | 88 => ⟨S68x2x8x64x8x128, .f32⟩
  | 89 => ⟨S68x2x8x8x64x128, .f32⟩
  | 90 => ⟨S68x2x8x1x8x128, .f32⟩
  | 91 => ⟨S68x2x8x8x1x128, .f32⟩
  | 92 => ⟨S68x2x8x64x8x128, .f32⟩
  | 93 => ⟨S68x2x8x8x64x128, .f32⟩
  | 94 => ⟨S_, .f32⟩
  | 95 => ⟨S2x8x8x128x128, .f32⟩
  | 96 => ⟨S_, .f32⟩
  | 97 => ⟨S68x2x8x8x64x128, .f32⟩
  | 98 => ⟨S_, .i32⟩
  | 99 => ⟨S68x2x8x8x64x128, .f32⟩
  | 100 => ⟨S68x2x8x8x64x128, .f32⟩
  | 101 => ⟨S68x2x8x8x64x128, .f32⟩
  | 102 => ⟨S68x2x8x8x1x128, .f32⟩
  | 103 => ⟨S68x2x8x8x64x128, .f32⟩
  | 104 => ⟨S68x2x8x8x64x64, .f32⟩
  | 105 => ⟨S_, .i32⟩
  | 106 => ⟨S2x8x8x128x128, .f32⟩
  | 107 => ⟨S68x2x8x8x64x128, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S1x2x8x8x64x128, .f32⟩
  | 116 => ⟨S2x8x8x64x128, .f32⟩
  | 117 => ⟨S_, .i32⟩
  | 118 => ⟨S_, .i32⟩
  | 119 => ⟨S_, .i32⟩
  | 120 => ⟨S_, .i32⟩
  | 121 => ⟨S_, .i32⟩
  | 122 => ⟨S1x2x8x8x64x128, .f32⟩
  | 123 => ⟨S2x8x8x64x128, .f32⟩
  | 124 => ⟨S_, .i32⟩
  | 125 => ⟨S_, .i32⟩
  | 126 => ⟨S_, .i32⟩
  | 127 => ⟨S_, .i32⟩
  | _ => ⟨S2x8x68x64x1024, .bf16⟩

abbrev hbmTy0_1 (i : Nat) : BufTy := match i % 128 with
  | 0 => ⟨S_, .i32⟩
  | 1 => ⟨S1x2x8x8x64x128, .f32⟩
  | 2 => ⟨S2x8x8x64x128, .f32⟩
  | 3 => ⟨S_, .i32⟩
  | 4 => ⟨S_, .i32⟩
  | 5 => ⟨S_, .i32⟩
  | 6 => ⟨S_, .i32⟩
  | 7 => ⟨S_, .i32⟩
  | 8 => ⟨S1x2x8x8x1x128, .f32⟩
  | 9 => ⟨S2x8x8x1x128, .f32⟩
  | 10 => ⟨S_, .i32⟩
  | 11 => ⟨S_, .i32⟩
  | 12 => ⟨S_, .i32⟩
  | 13 => ⟨S_, .i32⟩
  | 14 => ⟨S_, .i32⟩
  | 15 => ⟨S1x2x8x8x64x128, .f32⟩
  | 16 => ⟨S2x8x8x64x128, .f32⟩
  | 17 => ⟨S_, .i32⟩
  | 18 => ⟨S_, .i32⟩
  | 19 => ⟨S_, .i32⟩
  | 20 => ⟨S_, .i32⟩
  | 21 => ⟨S_, .i32⟩
  | 22 => ⟨S1x2x8x8x64x64, .f32⟩
  | 23 => ⟨S2x8x8x64x64, .f32⟩
  | 24 => ⟨S2x8x8x64x128, .f32⟩
  | 25 => ⟨S2x8x8x64x128, .f32⟩
  | 26 => ⟨S2x8x8x128x128, .f32⟩
  | 27 => ⟨S2x8x8x128x128, .f32⟩
  | 28 => ⟨S2x8x8x128x128, .f32⟩
  | 29 => ⟨S2x8x8x128x128, .f32⟩
  | 30 => ⟨S2x8x8x64x128, .f32⟩
  | 31 => ⟨S2x8x8x64x128, .f32⟩
  | 32 => ⟨S2x8x8x64x128, .f32⟩
  | 33 => ⟨S1x2x8x8x64x128, .f32⟩
  | 34 => ⟨S_, .i32⟩
  | 35 => ⟨S_, .i32⟩
  | 36 => ⟨S_, .i32⟩
  | 37 => ⟨S_, .i32⟩
  | 38 => ⟨S_, .i32⟩
  | 39 => ⟨S68x2x8x8x64x128, .f32⟩
  | 40 => ⟨S_, .i32⟩
  | 41 => ⟨S_, .i32⟩
  | 42 => ⟨S64x2x8x8x64x128, .f32⟩
  | 43 => ⟨S2x8x64x64x8x128, .f32⟩
  | 44 => ⟨S2x8x64x64x1024, .f32⟩
  | 45 => ⟨S1x8x64x64x1024, .f32⟩
  | 46 => ⟨S8x64x64x1024, .f32⟩
  | 47 => ⟨S8x4096x1024, .f32⟩
  | 48 => ⟨S1x8x64x64x1024, .f32⟩
  | 49 => ⟨S8x64x64x1024, .f32⟩
  | 50 => ⟨S8x64x64x1024, .f32⟩
  | 51 => ⟨S8x4096x1024, .f32⟩
  | 52 => ⟨S8x4096x1024, .bf16⟩
  | 53 => ⟨S8x4096x1024, .bf16⟩
  | _ => ⟨S2x8x68x64x1024, .bf16⟩

abbrev hbmTy (i : Nat) : BufTy := match i / 128 with
  | 0 => hbmTy0_0 i
  | 1 => hbmTy0_1 i
  | _ => ⟨S2x8x68x64x1024, .bf16⟩

abbrev bufTy : (tb : Table) → Fin (tcTables nBuf tb) → BufTy
  | .hbm, ⟨i, _⟩ => hbmTy i
  | _, _ => ⟨S2x8x68x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_cst : Ref sig .tc := ⟨.hbm, 94, rfl⟩
abbrev main_v89 : Ref sig .tc := ⟨.hbm, 95, rfl⟩
abbrev main_cst_0 : Ref sig .tc := ⟨.hbm, 96, rfl⟩
abbrev main_v90 : Ref sig .tc := ⟨.hbm, 97, rfl⟩
abbrev main_c : Ref sig .tc := ⟨.hbm, 98, rfl⟩
abbrev main_v91_0 : Ref sig .tc := ⟨.hbm, 99, rfl⟩
abbrev main_v91_1 : Ref sig .tc := ⟨.hbm, 100, rfl⟩
abbrev main_v91_2 : Ref sig .tc := ⟨.hbm, 101, rfl⟩
abbrev main_v91_3 : Ref sig .tc := ⟨.hbm, 102, rfl⟩
abbrev main_v91_4 : Ref sig .tc := ⟨.hbm, 103, rfl⟩
abbrev main_v91_5 : Ref sig .tc := ⟨.hbm, 104, rfl⟩
abbrev main_v91_6 : Ref sig .tc := ⟨.hbm, 105, rfl⟩
abbrev main_v91_7 : Ref sig .tc := ⟨.hbm, 106, rfl⟩
abbrev main_v91_8 : Ref sig .tc := ⟨.hbm, 107, rfl⟩
abbrev main_while0c_c_9 : Ref sig .tc := ⟨.hbm, 108, rfl⟩
abbrev main_while0c_v104 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_c_3 : Ref sig .tc := ⟨.hbm, 114, rfl⟩
abbrev main_while0b_call6_v0 : Ref sig .tc := ⟨.hbm, 115, rfl⟩
abbrev main_while0b_v104 : Ref sig .tc := ⟨.hbm, 116, rfl⟩
abbrev main_while0b_call7_c : Ref sig .tc := ⟨.hbm, 117, rfl⟩
abbrev main_while0b_call7_c_0 : Ref sig .tc := ⟨.hbm, 118, rfl⟩
abbrev main_while0b_call7_c_1 : Ref sig .tc := ⟨.hbm, 119, rfl⟩
abbrev main_while0b_call7_c_2 : Ref sig .tc := ⟨.hbm, 120, rfl⟩
abbrev main_while0b_call7_c_3 : Ref sig .tc := ⟨.hbm, 121, rfl⟩
abbrev main_while0b_call7_v0 : Ref sig .tc := ⟨.hbm, 122, rfl⟩
abbrev main_while0b_v105 : Ref sig .tc := ⟨.hbm, 123, rfl⟩
abbrev main_while0b_call8_c : Ref sig .tc := ⟨.hbm, 124, rfl⟩
abbrev main_while0b_call8_c_0 : Ref sig .tc := ⟨.hbm, 125, rfl⟩
abbrev main_while0b_call8_c_1 : Ref sig .tc := ⟨.hbm, 126, rfl⟩
abbrev main_while0b_call8_c_2 : Ref sig .tc := ⟨.hbm, 127, rfl⟩
abbrev main_while0b_call8_c_3 : Ref sig .tc := ⟨.hbm, 128, rfl⟩
abbrev main_while0b_call8_v0 : Ref sig .tc := ⟨.hbm, 129, rfl⟩
abbrev main_while0b_v106 : Ref sig .tc := ⟨.hbm, 130, rfl⟩
abbrev main_while0b_call9_c : Ref sig .tc := ⟨.hbm, 131, rfl⟩
abbrev main_while0b_call9_c_0 : Ref sig .tc := ⟨.hbm, 132, rfl⟩
abbrev main_while0b_call9_c_1 : Ref sig .tc := ⟨.hbm, 133, rfl⟩
abbrev main_while0b_call9_c_2 : Ref sig .tc := ⟨.hbm, 134, rfl⟩
abbrev main_while0b_call9_c_3 : Ref sig .tc := ⟨.hbm, 135, rfl⟩
abbrev main_while0b_call9_v0 : Ref sig .tc := ⟨.hbm, 136, rfl⟩
abbrev main_while0b_v107 : Ref sig .tc := ⟨.hbm, 137, rfl⟩
abbrev main_while0b_call10_c : Ref sig .tc := ⟨.hbm, 138, rfl⟩
abbrev main_while0b_call10_c_0 : Ref sig .tc := ⟨.hbm, 139, rfl⟩
abbrev main_while0b_call10_c_1 : Ref sig .tc := ⟨.hbm, 140, rfl⟩
abbrev main_while0b_call10_c_2 : Ref sig .tc := ⟨.hbm, 141, rfl⟩
abbrev main_while0b_call10_c_3 : Ref sig .tc := ⟨.hbm, 142, rfl⟩
abbrev main_while0b_call10_v0 : Ref sig .tc := ⟨.hbm, 143, rfl⟩
abbrev main_while0b_v108 : Ref sig .tc := ⟨.hbm, 144, rfl⟩
abbrev main_while0b_call11_c : Ref sig .tc := ⟨.hbm, 145, rfl⟩
abbrev main_while0b_call11_c_0 : Ref sig .tc := ⟨.hbm, 146, rfl⟩
abbrev main_while0b_call11_c_1 : Ref sig .tc := ⟨.hbm, 147, rfl⟩
abbrev main_while0b_call11_c_2 : Ref sig .tc := ⟨.hbm, 148, rfl⟩
abbrev main_while0b_call11_c_3 : Ref sig .tc := ⟨.hbm, 149, rfl⟩
abbrev main_while0b_call11_v0 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_call12_v0 : Ref sig .tc := ⟨.hbm, 161, rfl⟩
abbrev main_while0b_call12_c : Ref sig .tc := ⟨.hbm, 162, rfl⟩
abbrev main_while0b_call12_c_0 : Ref sig .tc := ⟨.hbm, 163, rfl⟩
abbrev main_while0b_call12_c_1 : Ref sig .tc := ⟨.hbm, 164, rfl⟩
abbrev main_while0b_call12_c_2 : Ref sig .tc := ⟨.hbm, 165, rfl⟩
abbrev main_while0b_call12_c_3 : Ref sig .tc := ⟨.hbm, 166, rfl⟩
abbrev main_while0b_v119 : Ref sig .tc := ⟨.hbm, 167, rfl⟩
abbrev main_while0b_c_9 : Ref sig .tc := ⟨.hbm, 168, rfl⟩
abbrev main_while0b_v120 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S8x4096x1024 : Shape := ⟨3, ![8, 4096, 1024]⟩
abbrev S8x1x1024 : Shape := ⟨3, ![8, 1, 1024]⟩
abbrev S1024x6688 : Shape := ⟨2, ![1024, 6688]⟩
abbrev S1024x4096 : Shape := ⟨2, ![1024, 4096]⟩
abbrev S1024x2048 : Shape := ⟨2, ![1024, 2048]⟩
abbrev S1024x512 : Shape := ⟨2, ![1024, 512]⟩
abbrev S1024x6656 : Shape := ⟨2, ![1024, 6656]⟩
abbrev S1024x32 : Shape := ⟨2, ![1024, 32]⟩
abbrev S_ : Shape := ⟨0, ![]⟩
abbrev S1024x128 : Shape := ⟨2, ![1024, 128]⟩
abbrev S8x4352x6656 : Shape := ⟨3, ![8, 4352, 6656]⟩
abbrev S8x4352x128 : Shape := ⟨3, ![8, 4352, 128]⟩
abbrev S1x1024x1024 : Shape := ⟨3, ![1, 1024, 1024]⟩
abbrev S1x1x1024 : Shape := ⟨3, ![1, 1, 1024]⟩
abbrev S1024x1664 : Shape := ⟨2, ![1024, 1664]⟩
abbrev S1x1024x1664 : Shape := ⟨3, ![1, 1024, 1664]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x6688, .f32⟩
  | .hbm, ⟨4, _⟩ => ⟨S1024x4096, .f32⟩
  | .hbm, ⟨5, _⟩ => ⟨S1024x2048, .f32⟩
  | .hbm, ⟨6, _⟩ => ⟨S1024x512, .f32⟩
  | .hbm, ⟨7, _⟩ => ⟨S1024x6656, .f32⟩
  | .hbm, ⟨8, _⟩ => ⟨S1024x6656, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S8x4352x6656, .bf16⟩
  | .hbm, ⟨15, _⟩ => ⟨S8x4352x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1664, .bf16⟩
  | .local _ .vmem, ⟨7, _⟩ => ⟨S1024x1664, .bf16⟩
  | .local _ .vmem, ⟨8, _⟩ => ⟨S1024x128, .bf16⟩
  | .local _ .vmem, ⟨9, _⟩ => ⟨S1x1024x1664, .bf16⟩
  | .local _ .vmem, ⟨10, _⟩ => ⟨S1x1024x1664, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8x4096x1024 : Shape := ⟨3, ![8, 4096, 1024]⟩
abbrev S8x1x1024 : Shape := ⟨3, ![8, 1, 1024]⟩
abbrev S1024x6688 : Shape := ⟨2, ![1024, 6688]⟩
abbrev S_ : Shape := ⟨0, ![]⟩
abbrev S8x4096 : Shape := ⟨2, ![8, 4096]⟩
abbrev S8x4096x1 : Shape := ⟨3, ![8, 4096, 1]⟩
abbrev S8x4096x6688 : Shape := ⟨3, ![8, 4096, 6688]⟩
abbrev S8x4096x4096 : Shape := ⟨3, ![8, 4096, 4096]⟩
abbrev S8x4096x2048 : Shape := ⟨3, ![8, 4096, 2048]⟩
abbrev S8x4096x512 : Shape := ⟨3, ![8, 4096, 512]⟩
abbrev S8x4096x6656 : Shape := ⟨3, ![8, 4096, 6656]⟩
abbrev S8x4352x6656 : Shape := ⟨3, ![8, 4352, 6656]⟩
abbrev S8x4096x32 : Shape := ⟨3, ![8, 4096, 32]⟩
abbrev S8x4352x128 : Shape := ⟨3, ![8, 4352, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x6688, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x6688, .f32⟩
  | .hbm, ⟨35, _⟩ => ⟨S8x4096x4096, .f32⟩
  | .hbm, ⟨36, _⟩ => ⟨S8x4096x2048, .f32⟩
  | .hbm, ⟨37, _⟩ => ⟨S8x4096x512, .f32⟩
  | .hbm, ⟨38, _⟩ => ⟨S8x4096x6656, .f32⟩
  | .hbm, ⟨39, _⟩ => ⟨S_, .i32⟩
  | .hbm, ⟨40, _⟩ => ⟨S_, .f32⟩
  | .hbm, ⟨41, _⟩ => ⟨S8x4352x6656, .f32⟩
  | .hbm, ⟨42, _⟩ => ⟨S8x4352x6656, .bf16⟩
  | .hbm, ⟨43, _⟩ => ⟨S8x4096x32, .f32⟩
  | .hbm, ⟨44, _⟩ => ⟨S_, .i32⟩
  | .hbm, ⟨45, _⟩ => ⟨S_, .f32⟩
  | .hbm, ⟨46, _⟩ => ⟨S8x4352x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_call1_v0 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4352x6656 : Shape := ⟨3, ![8, 4352, 6656]⟩
abbrev S8x4096x512 : Shape := ⟨3, ![8, 4096, 512]⟩
abbrev S8x6x1024 : Shape := ⟨3, ![8, 6, 1024]⟩
abbrev S128 : Shape := ⟨1, ![128]⟩
abbrev S512x1024 : Shape := ⟨2, ![512, 1024]⟩
abbrev S1024x1024 : Shape := ⟨2, ![1024, 1024]⟩
abbrev S2x1024 : Shape := ⟨2, ![2, 1024]⟩
abbrev S1x128 : Shape := ⟨2, ![1, 128]⟩
abbrev S1x1024 : Shape := ⟨2, ![1, 1024]⟩
abbrev S1024x32768 : Shape := ⟨2, ![1024, 32768]⟩
abbrev S1x512x1024 : Shape := ⟨3, ![1, 512, 1024]⟩
abbrev S1x512x512 : Shape := ⟨3, ![1, 512, 512]⟩
abbrev S1x6x1024 : Shape := ⟨3, ![1, 6, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S6x1024 : Shape := ⟨2, ![6, 1024]⟩

abbrev nBuf : Space → Nat
  | .hbm => 21
  | .vmem => 28
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4352x6656, .bf16⟩
  | .hbm, ⟨3, _⟩ => ⟨S8x4096x512, .bf16⟩
  | .hbm, ⟨4, _⟩ => ⟨S8x4096x1024, .f32⟩
  | .hbm, ⟨5, _⟩ => ⟨S8x6x1024, .f32⟩
  | .hbm, ⟨6, _⟩ => ⟨S128, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S2x1024, .f32⟩
  | .hbm, ⟨11, _⟩ => ⟨S2x1024, .f32⟩
  | .hbm, ⟨12, _⟩ => ⟨S1x128, .f32⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S8x4096x1024, .f32⟩
  | .hbm, ⟨19, _⟩ => ⟨S8x4096x1024, .bf16⟩
  | .hbm, ⟨20, _⟩ => ⟨S1024x32768, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x1024, .f32⟩
  | .local _ .vmem, ⟨13, _⟩ => ⟨S1x512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x128, .f32⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S1024x512, .bf16⟩
  | .local _ .vmem, ⟨27, _⟩ => ⟨S1024x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x4096x1024 : Shape := ⟨3, ![8, 4096, 1024]⟩
abbrev S8x4352x6656 : Shape := ⟨3, ![8, 4352, 6656]⟩
abbrev S8x4096x512 : Shape := ⟨3, ![8, 4096, 512]⟩
abbrev S8x6x1024 : Shape := ⟨3, ![8, 6, 1024]⟩
abbrev S128 : Shape := ⟨1, ![128]⟩
abbrev S512x1024 : Shape := ⟨2, ![512, 1024]⟩
abbrev S1024x1024 : Shape := ⟨2, ![1024, 1024]⟩
abbrev S2x1024 : Shape := ⟨2, ![2, 1024]⟩
abbrev S8x4096x6656 : Shape := ⟨3, ![8, 4096, 6656]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x2048 : Shape := ⟨3, ![8, 4096, 2048]⟩
abbrev S8x4096x2x1024 : Shape := ⟨4, ![8, 4096, 2, 1024]⟩
abbrev S8x4096x1x1024 : Shape := ⟨4, ![8, 4096, 1, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S1024x32768 : Shape := ⟨2, ![1024, 32768]⟩

abbrev nBuf : Space → Nat
  | .hbm => 148
  | .vmem => 0
  | .smem => 0
  | _ => 0

abbrev hbmTy0_0 (i : Nat) : BufTy := match i % 128 with
  | 0 => ⟨S8x4096x1024, .bf16⟩
  | 1 => ⟨S8x4096x1024, .bf16⟩
  | 2 => ⟨S8x4352x6656, .bf16⟩
  | 3 => ⟨S8x4096x512, .bf16⟩
  | 4 => ⟨S8x4096x1024, .f32⟩
  | 5 => ⟨S8x6x1024, .f32⟩
  | 6 => ⟨S128, .f32⟩
  | 7 => ⟨S512x1024, .f32⟩
  | 8 => ⟨S1024x1024, .f32⟩
  | 9 => ⟨S1024x1024, .f32⟩
  | 10 => ⟨S2x1024, .f32⟩
  | 11 => ⟨S2x1024, .f32⟩
  | 12 => ⟨S8x4096x6656, .bf16⟩
  | 13 => ⟨S8x4096x6656, .f32⟩
  | 14 => ⟨S8x4096x1024, .f32⟩
  | 15 => ⟨S8x4096x1024, .f32⟩
  | 16 => ⟨S8x4096x1024, .f32⟩
  | 17 => ⟨S8x4096x8x128, .f32⟩
  | 18 => ⟨S8x4096x1024, .f32⟩
  | 19 => ⟨S8x4096x8x128, .f32⟩
  | 20 => ⟨S8x4096x8x128, .f32⟩
  | 21 => ⟨S_, .f32⟩
  | 22 => ⟨S8x4096x8, .f32⟩
  | 23 => ⟨S8x4096x8x1, .f32⟩
  | 24 => ⟨S_, .f32⟩
  | 25 => ⟨S8x4096x8x1, .f32⟩
  | 26 => ⟨S8x4096x8x1, .f32⟩
  | 27 => ⟨S_, .f32⟩
  | 28 => ⟨S8x4096x8x1, .f32⟩
  | 29 => ⟨S8x4096x8x1, .f32⟩
  | 30 => ⟨S8x4096x8x1, .f32⟩
  | 31 => ⟨S8x4096x8x128, .f32⟩
  | 32 => ⟨S8x4096x8x128, .f32⟩
  | 33 => ⟨S1x1x1x128, .f32⟩
  | 34 => ⟨S8x4096x8x128, .f32⟩
  | 35 => ⟨S8x4096x8x128, .f32⟩
  | 36 => ⟨S8x4096x8x128, .f32⟩
  | 37 => ⟨S8x4096x8x128, .f32⟩
  | 38 => ⟨S_, .f32⟩
  | 39 => ⟨S8x4096x8x128, .f32⟩
  | 40 => ⟨S8x4096x8x128, .f32⟩
  | 41 => ⟨S_, .f32⟩
  | 42 => ⟨S8x4096x8x128, .f32⟩
  | 43 => ⟨S8x4096x8x128, .f32⟩
  | 44 => ⟨S8x4096x8x128, .f32⟩
  | 45 => ⟨S8x4096x8x128, .f32⟩
  | 46 => ⟨S8x4096x1024, .f32⟩
  | 47 => ⟨S8x4096x1024, .f32⟩
  | 48 => ⟨S8x4096x512, .f32⟩
  | 49 => ⟨S8x4096x1024, .f32⟩
  | 50 => ⟨S8x4096x2048, .f32⟩
  | 51 => ⟨S8x4096x2x1024, .f32⟩
  | 52 => ⟨S8x4096x2x1024, .f32⟩
  | 53 => ⟨S8x4096x2x1024, .f32⟩
  | 54 => ⟨S_, .f32⟩
  | 55 => ⟨S8x4096x2x1024, .f32⟩
  | 56 => ⟨S8x4096x2x1024, .f32⟩
  | 57 => ⟨S_, .f32⟩
  | 58 => ⟨S8x4096x2x1024, .f32⟩
  | 59 => ⟨S8x4096x2x1024, .f32⟩
  | 60 => ⟨S8x4096x1x1024, .f32⟩
  | 61 => ⟨S8x4096x1024, .f32⟩
  | 62 => ⟨S8x4096x1024, .f32⟩
  | 63 => ⟨S8x4096x1x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S8x6x1x1024, .f32⟩
  | 69 => ⟨S8x1x1x1024, .f32⟩
  | 70 => ⟨S8x1x1024, .f32⟩
  | 71 => ⟨S8x4096x1024, .f32⟩
  | 72 => ⟨S8x4096x1024, .f32⟩
  | 73 => ⟨S1x1024, .f32⟩
  | 74 => ⟨S1024, .f32⟩
  | 75 => ⟨S1x1024, .f32⟩
  | 76 => ⟨S1024, .f32⟩
  | 77 => ⟨S_, .f32⟩
  | 78 => ⟨S8x4096x1024, .f32⟩
  | 79 => ⟨S8x4096x1024, .f32⟩
  | 80 => ⟨S8x4096x1024, .f32⟩
  | 81 => ⟨S_, .f32⟩
  | 82 => ⟨S8x4096, .f32⟩
  | 83 => ⟨S8x4096x1, .f32⟩
  | 84 => ⟨S_, .f32⟩
  | 85 => ⟨S8x4096x1, .f32⟩
  | 86 => ⟨S8x4096x1, .f32⟩
  | 87 => ⟨S8x4096x1024, .f32⟩
  | 88 => ⟨S8x4096x1024, .f32⟩
  | 89 => ⟨S8x4096x1024, .f32⟩
  | 90 => ⟨S_, .f32⟩
  | 91 => ⟨S8x4096, .f32⟩
  | 92 => ⟨S8x4096x1, .f32⟩
  | 93 => ⟨S_, .f32⟩
  | 94 => ⟨S8x4096x1, .f32⟩
  | 95 => ⟨S8x4096x1, .f32⟩
  | 96 => ⟨S8x4096x1024, .f32⟩
  | 97 => ⟨S8x4096x1024, .f32⟩
  | 98 => ⟨S_, .f32⟩
  | 99 => ⟨S8x4096x1, .f32⟩
  | 100 => ⟨S8x4096x1, .f32⟩
  | 101 => ⟨S8x4096x1, .f32⟩
  | 102 => ⟨S8x4096x1024, .f32⟩
  | 103 => ⟨S8x4096x1024, .f32⟩
  | 104 => ⟨S1x1x1024, .f32⟩
  | 105 => ⟨S8x4096x1024, .f32⟩
  | 106 => ⟨S8x4096x1024, .f32⟩
  | 107 => ⟨S1x1x1024, .f32⟩
  | 108 => ⟨S8x4096x1024, .f32⟩
  | 109 => ⟨S8x4096x1024, .f32⟩
  | 110 => ⟨S_, .f32⟩
  | 111 => ⟨S8x4096, .f32⟩
  | 112 => ⟨S8x4096x1, .f32⟩
  | 113 => ⟨S_, .f32⟩
  | 114 => ⟨S8x4096x1, .f32⟩
  | 115 => ⟨S8x4096x1, .f32⟩
  | 116 => ⟨S8x4096x1024, .f32⟩
  | 117 => ⟨S8x4096x1024, .f32⟩
  | 118 => ⟨S8x4096x1024, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S8x4096x1024, .f32⟩
  | 126 => ⟨S8x4096x1024, .f32⟩
  | 127 => ⟨S_, .f32⟩
  | _ => ⟨S8x4096x1024, .bf16⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x1024, .f32⟩
  | 4 => ⟨S8x4096x1024, .f32⟩
  | 5 => ⟨S8x1x1x1024, .f32⟩
  | 6 => ⟨S8x1x1024, .f32⟩
  | 7 => ⟨S8x1x1x1024, .f32⟩
  | 8 => ⟨S8x1x1024, .f32⟩
  | 9 => ⟨S_, .f32⟩
  | 10 => ⟨S8x1x1024, .f32⟩
  | 11 => ⟨S8x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S8x4096x1024, .bf16⟩
  | 17 => ⟨S32768x1024, .f32⟩
  | 18 => ⟨S1024x32768, .f32⟩
  | 19 => ⟨S1024x32768, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_7 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_10 : Ref sig .tc := ⟨.hbm, 110, rfl⟩
abbrev main_v79 : Ref sig .tc := ⟨.hbm, 111, rfl⟩
abbrev main_v80 : Ref sig .tc := ⟨.hbm, 112, rfl⟩
abbrev main_cst_11 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_14 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_15 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S4096x4096 : Shape := ⟨2, ![4096, 4096]⟩
abbrev S8x4352x6656 : Shape := ⟨3, ![8, 4352, 6656]⟩
abbrev S128x128 : Shape := ⟨2, ![128, 128]⟩
abbrev S8x4096x512 : Shape := ⟨3, ![8, 4096, 512]⟩
abbrev S512x4096 : Shape := ⟨2, ![512, 4096]⟩
abbrev S1x4096x512 : Shape := ⟨3, ![1, 4096, 512]⟩
abbrev S1x512x512 : Shape := ⟨3, ![1, 512, 512]⟩
abbrev S4096x512 : Shape := ⟨2, ![4096, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4352x6656, .bf16⟩
  | .hbm, ⟨3, _⟩ => ⟨S128x128, .bf16⟩
  | .hbm, ⟨4, _⟩ => ⟨S128x128, .bf16⟩
  | .hbm, ⟨5, _⟩ => ⟨S8x4096x512, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S128x128, .bf16⟩
  | .local _ .vmem, ⟨7, _⟩ => ⟨S128x128, .bf16⟩
  | .local _ .vmem, ⟨8, _⟩ => ⟨S1x512x512, .bf16⟩
  | .local _ .vmem, ⟨9, _⟩ => ⟨S1x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![arg1.toNat, c0_i32.toNat, c12_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x4096 : Shape := ⟨2, ![4096, 4096]⟩
abbrev S8x4352x6656 : Shape := ⟨3, ![8, 4352, 6656]⟩
abbrev S128x128 : Shape := ⟨2, ![128, 128]⟩
abbrev S8x4096x512 : Shape := ⟨3, ![8, 4096, 512]⟩
abbrev S8x4096x4x128 : Shape := ⟨4, ![8, 4096, 4, 128]⟩
abbrev S8x4x128x4096 : Shape := ⟨4, ![8, 4, 128, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4352x6656, .bf16⟩
  | .hbm, ⟨3, _⟩ => ⟨S128x128, .bf16⟩
  | .hbm, ⟨4, _⟩ => ⟨S128x128, .bf16⟩
  | .hbm, ⟨5, _⟩ => ⟨S8x4096x512, .bf16⟩
  | .hbm, ⟨6, _⟩ => ⟨S8x4096x512, .f32⟩
  | .hbm, ⟨7, _⟩ => ⟨S8x4096x4x128, .f32⟩
  | .hbm, ⟨8, _⟩ => ⟨S4096x4096, .f32⟩
  | .hbm, ⟨9, _⟩ => ⟨S8x4x128x4096, .f32⟩
  | .hbm, ⟨10, _⟩ => ⟨S8x4096x4x128, .f32⟩
  | .hbm, ⟨11, _⟩ => ⟨S4096x4096, .f32⟩
  | .hbm, ⟨12, _⟩ => ⟨S8x4x128x4096, .f32⟩
  | .hbm, ⟨13, _⟩ => ⟨S8x4096x4x128, .f32⟩
  | .hbm, ⟨14, _⟩ => ⟨S128x128, .f32⟩
  | .hbm, ⟨15, _⟩ => ⟨S8x4096x4x128, .f32⟩
  | .hbm, ⟨16, _⟩ => ⟨S128x128, .f32⟩
  | .hbm, ⟨17, _⟩ => ⟨S8x4096x4x128, .f32⟩
  | .hbm, ⟨18, _⟩ => ⟨S8x4096x4x128, .f32⟩
  | .hbm, ⟨19, _⟩ => ⟨S8x4096x512, .f32⟩
  | .hbm, ⟨20, _⟩ => ⟨S8x4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel6.lean ====
abbrev S8x256x1024 : Shape := ⟨3, ![8, 256, 1024]⟩
abbrev S8x1x1024 : Shape := ⟨3, ![8, 1, 1024]⟩
abbrev S1024x6688 : Shape := ⟨2, ![1024, 6688]⟩
abbrev S8x4352x6656 : Shape := ⟨3, ![8, 4352, 6656]⟩
abbrev S8x4352x128 : Shape := ⟨3, ![8, 4352, 128]⟩
abbrev S1024x4096 : Shape := ⟨2, ![1024, 4096]⟩
abbrev S1024x2048 : Shape := ⟨2, ![1024, 2048]⟩
abbrev S1024x512 : Shape := ⟨2, ![1024, 512]⟩
abbrev S1024x6656 : Shape := ⟨2, ![1024, 6656]⟩
abbrev S1024x32 : Shape := ⟨2, ![1024, 32]⟩
abbrev S_ : Shape := ⟨0, ![]⟩
abbrev S1024x128 : Shape := ⟨2, ![1024, 128]⟩
abbrev S1x256x1024 : Shape := ⟨3, ![1, 256, 1024]⟩
abbrev S1x1x1024 : Shape := ⟨3, ![1, 1, 1024]⟩
abbrev S1024x1664 : Shape := ⟨2, ![1024, 1664]⟩
abbrev S1x256x1664 : Shape := ⟨3, ![1, 256, 1664]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x128 : Shape := ⟨2, ![256, 128]⟩
abbrev S256x1664 : Shape := ⟨2, ![256, 1664]⟩

abbrev nBuf : Space → Nat
  | .hbm => 18
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024x6688, .f32⟩
  | .hbm, ⟨4, _⟩ => ⟨S8x4352x6656, .bf16⟩
  | .hbm, ⟨5, _⟩ => ⟨S8x4352x128, .f32⟩
  | .hbm, ⟨6, _⟩ => ⟨S1024x4096, .f32⟩
  | .hbm, ⟨7, _⟩ => ⟨S1024x2048, .f32⟩
  | .hbm, ⟨8, _⟩ => ⟨S1024x512, .f32⟩
  | .hbm, ⟨9, _⟩ => ⟨S1024x6656, .f32⟩
  | .hbm, ⟨10, _⟩ => ⟨S1024x6656, .bf16⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S8x4352x6656, .bf16⟩
  | .hbm, ⟨17, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1664, .bf16⟩
  | .local _ .vmem, ⟨7, _⟩ => ⟨S1024x1664, .bf16⟩
  | .local _ .vmem, ⟨8, _⟩ => ⟨S1024x128, .bf16⟩
  | .local _ .vmem, ⟨9, _⟩ => ⟨S1x256x1664, .bf16⟩
  | .local _ .vmem, ⟨10, _⟩ => ⟨S1x256x1664, .bf16⟩
  | .local _ .vmem, ⟨11, _⟩ => ⟨S1x256x128, .f32⟩
  | .local _ .vmem, ⟨12, _⟩ => ⟨S1x256x128, .f32⟩
  | .local _ .vmem, ⟨13, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference6Ideal.lean ====
abbrev S8x256x1024 : Shape := ⟨3, ![8, 256, 1024]⟩
abbrev S8x1x1024 : Shape := ⟨3, ![8, 1, 1024]⟩
abbrev S1024x6688 : Shape := ⟨2, ![1024, 6688]⟩
abbrev S8x4352x6656 : Shape := ⟨3, ![8, 4352, 6656]⟩
abbrev S8x4352x128 : Shape := ⟨3, ![8, 4352, 128]⟩
abbrev S_ : Shape := ⟨0, ![]⟩
abbrev S8x256 : Shape := ⟨2, ![8, 256]⟩
abbrev S8x256x1 : Shape := ⟨3, ![8, 256, 1]⟩
abbrev S8x256x6688 : Shape := ⟨3, ![8, 256, 6688]⟩
abbrev S8x256x4096 : Shape := ⟨3, ![8, 256, 4096]⟩
abbrev S8x256x2048 : Shape := ⟨3, ![8, 256, 2048]⟩
abbrev S8x256x512 : Shape := ⟨3, ![8, 256, 512]⟩
abbrev S8x256x6656 : Shape := ⟨3, ![8, 256, 6656]⟩
abbrev S8x4096x6656 : Shape := ⟨3, ![8, 4096, 6656]⟩
abbrev S8x4096x128 : Shape := ⟨3, ![8, 4096, 128]⟩
abbrev S8x256x32 : Shape := ⟨3, ![8, 256, 32]⟩
abbrev S8x256x128 : Shape := ⟨3, ![8, 256, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024x6688, .f32⟩
  | .hbm, ⟨4, _⟩ => ⟨S8x4352x6656, .bf16⟩
  | .hbm, ⟨5, _⟩ => ⟨S8x4352x128, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S_, .f32⟩
  | .hbm, ⟨16, _⟩ => ⟨S8x256, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S8x256x1024, .f32⟩
  | .hbm, ⟨22, _⟩ => ⟨S8x256x1024, .f32⟩
  | .hbm, ⟨23, _⟩ => ⟨S_, .f32⟩
  | .hbm, ⟨24, _⟩ => ⟨S8x256x1, .f32⟩
  | .hbm, ⟨25, _⟩ => ⟨S8x256x1, .f32⟩
  | .hbm, ⟨26, _⟩ => ⟨S8x256x1, .f32⟩
  | .hbm, ⟨27, _⟩ => ⟨S8x256x1024, .f32⟩
  | .hbm, ⟨28, _⟩ => ⟨S8x256x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x256x6688, .f32⟩
  | .hbm, ⟨37, _⟩ => ⟨S8x256x4096, .f32⟩
  | .hbm, ⟨38, _⟩ => ⟨S8x256x2048, .f32⟩
  | .hbm, ⟨39, _⟩ => ⟨S8x256x512, .f32⟩
  | .hbm, ⟨40, _⟩ => ⟨S8x256x6656, .f32⟩
  | .hbm, ⟨41, _⟩ => ⟨S8x4096x6656, .bf16⟩
  | .hbm, ⟨42, _⟩ => ⟨S8x256x6656, .bf16⟩
  | .hbm, ⟨43, _⟩ => ⟨S8x4352x6656, .bf16⟩
  | .hbm, ⟨44, _⟩ => ⟨S8x4096x128, .f32⟩
  | .hbm, ⟨45, _⟩ => ⟨S8x256x32, .f32⟩
  | .hbm, ⟨46, _⟩ => ⟨S_, .i32⟩
  | .hbm, ⟨47, _⟩ => ⟨S_, .f32⟩
  | .hbm, ⟨48, _⟩ => ⟨S8x256x128, .f32⟩
  | .hbm, ⟨49, _⟩ => ⟨S8x4352x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.RefStep.lean ====
module

public import proofs.«01_k».proof.Proof.Gen.ReferenceIdeal.Run
public import Idealize.ShloMosaic.Lib.Pointwise

@[expose] public section

set_option maxRecDepth 16384

noncomputable section

namespace Cert.ReferenceIdeal.Rec

open Idealize.ShloMosaic Idealize.ShloMosaic.TcCoe Idealize.SL.Sem
open Cert.ReferenceIdeal Cert.ReferenceIdeal.Gen Cert.ReferenceIdeal.Value

variable (V : Valuation τ sig (Elt Ideal))

/-- The stacked chunks' array `u` of a loop state. -/
abbrev xU : FVec Ideal S68x2x8x8x64x128 .f32 := V (Proc.devRef .tc main_v91_0)
/-- The stacked chunks' array `w` of a loop state. -/
abbrev xW : FVec Ideal S68x2x8x8x64x128 .f32 := V (Proc.devRef .tc main_v91_1)
/-- The stacked chunks' decayed keys of a loop state. -/
abbrev xK : FVec Ideal S68x2x8x8x64x128 .f32 := V (Proc.devRef .tc main_v91_2)
/-- The stacked chunks' decay factors of a loop state. -/
abbrev xG : FVec Ideal S68x2x8x8x1x128 .f32 := V (Proc.devRef .tc main_v91_3)
/-- The stacked chunks' decayed queries of a loop state. -/
abbrev xQ : FVec Ideal S68x2x8x8x64x128 .f32 := V (Proc.devRef .tc main_v91_4)
/-- The stacked chunks' attention matrices of a loop state. -/
abbrev xA : FVec Ideal S68x2x8x8x64x64 .f32 := V (Proc.devRef .tc main_v91_5)
/-- The carried recurrent state of a loop state. -/
abbrev xS : FVec Ideal S2x8x8x128x128 .f32 := V (Proc.devRef .tc main_v91_7)
/-- The stack of outputs of a loop state. -/
abbrev xO : FVec Ideal S68x2x8x8x64x128 .f32 := V (Proc.devRef .tc main_v91_8)

/-- The new values of step `k`: `u - w s`, at one entry. -/
def vnew (k : Fin 68) (x : Fin 2) (b h : Fin 8) (c : Fin 64) (v : Fin 128) : EReal :=
  xU V (ix6 k x b h c v) - ∑ l : Fin 128, xW V (ix6 k x b h c l) * xS V (ix5 x b h l v)

/-- The state after step `k`: `s gl + kdᵀ v_new`, at one entry. -/
def snew (k : Fin 68) (x : Fin 2) (b h : Fin 8) (l : Fin 128) (v : Fin 128) : EReal :=
  xS V (ix5 x b h l v) * xG V (ix6 k x b h 0 v) + ∑ c : Fin 64, xK V (ix6 k x b h c l) * vnew V k x b h c v

/-- The output of step `k`: `q_dec s + att v_new`, at one entry. -/
def onew (k : Fin 68) (x : Fin 2) (b h : Fin 8) (c : Fin 64) (v : Fin 128) : EReal :=
  (∑ l : Fin 128, xQ V (ix6 k x b h c l) * xS V (ix5 x b h l v)) + ∑ j : Fin 64, xA V (ix6 k x b h c j) * vnew V k x b h j v

/-- A counter below 68 read as a signed word is its number. -/
theorem toInt_ctr (k : Fin 68) : (BitVec.ofNat 32 (k : ℕ)).toInt = (k : ℤ) := by
  revert k; decide

/-- The start indices of a slice at the counter. -/
abbrev starts (n : (⟨S_, .i32⟩ : BufTy).Contents (Elt Ideal)) : Fin 6 → Int :=
  (fun k => (((![n, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt)

/-- Every start index but the first is zero. -/
theorem starts_zero (n : (⟨S_, .i32⟩ : BufTy).Contents (Elt Ideal)) (a : Fin 6) (ha : a ≠ 0) : starts n a = 0 := by
  fin_cases a
  · exact absurd rfl ha
  all_goals rfl

/-- One chunk sliced out of a stack, at an entry. -/
theorem slice_at {p q : ℕ} {α : Type} (X : (⟨6, ![68, 2, 8, 8, p, q]⟩ : Shape).Idx → α) (start : Fin 6 → Int)
    (hs : (⟨6, ![68, 2, 8, 8, p, q]⟩ : Shape).Slices (fun _ => 0) ⟨6, ![1, 2, 8, 8, p, q]⟩) (k : Fin 68)
    (h0 : start 0 = (k : ℤ)) (hz : ∀ a, a ≠ 0 → start a = 0) (x : Fin 2) (b h : Fin 8) (c : Fin p) (v : Fin q) :
    Host.dynamicSlice ⟨6, ![1, 2, 8, 8, p, q]⟩ X start hs (ix6 0 x b h c v) = X (ix6 k x b h c v) := by
  rw [Host.dynamicSlice_apply]
  refine congrArg X ?_
  funext a
  apply Fin.ext
  have hk := k.isLt
  fin_cases a
  · refine (congrArg (· + 0) (Host.clampedStart_of_le hs.1 start 0 k h0 ?_)).trans rfl
    show (k : ℕ) + 1 ≤ 68
    omega
  · refine (congrArg (· + (x : ℕ)) (Host.clampedStart_of_le hs.1 start 1 0 (hz 1 (by decide)) ?_)).trans (Nat.zero_add _)
    exact le_of_eq (Nat.zero_add _)
  · refine (congrArg (· + (b : ℕ)) (Host.clampedStart_of_le hs.1 start 2 0 (hz 2 (by decide)) ?_)).trans (Nat.zero_add _)
    exact le_of_eq (Nat.zero_add _)
  · refine (congrArg (· + (h : ℕ)) (Host.clampedStart_of_le hs.1 start 3 0 (hz 3 (by decide)) ?_)).trans (Nat.zero_add _)
    exact le_of_eq (Nat.zero_add _)
  · refine (congrArg (· + (c : ℕ)) (Host.clampedStart_of_le hs.1 start 4 0 (hz 4 (by decide)) ?_)).trans (Nat.zero_add _)
    exact le_of_eq (Nat.zero_add _)
  · refine (congrArg (· + (v : ℕ)) (Host.clampedStart_of_le hs.1 start 5 0 (hz 5 (by decide)) ?_)).trans (Nat.zero_add _)
    exact le_of_eq (Nat.zero_add _)

/-- One chunk of a stack of token-by-head-entry arrays. -/
def chunk (X : FVec Ideal S68x2x8x8x64x128 .f32) (n : ℕ) : FVec Ideal S2x8x8x64x128 .f32 :=
  shapeCast S2x8x8x64x128 (Host.dynamicSlice S1x2x8x8x64x128 X (starts fun _ => BitVec.ofNat 32 n) sliceFits_S68x2x8x8x64x128_S1x2x8x8x64x128) shapeCasts_S1x2x8x8x64x128_S2x8x8x64x128

/-- One chunk of a stack of token-by-head-entry arrays, at an entry. -/
theorem chunk_at (X : FVec Ideal S68x2x8x8x64x128 .f32) (k : Fin 68) (x : Fin 2) (b h : Fin 8) (c : Fin 64) (v : Fin 128) :
    chunk X k (ix5 x b h c v) = X (ix6 k x b h c v) := by
  unfold chunk
  have e := slice_at X (starts fun _ => BitVec.ofNat 32 (k : ℕ)) sliceFits_S68x2x8x8x64x128_S1x2x8x8x64x128 k (toInt_ctr k)
    (fun a ha => starts_zero _ a ha) x b h c v
  rw [← e]
  generalize Host.dynamicSlice S1x2x8x8x64x128 X (starts fun _ => BitVec.ofNat 32 (k : ℕ)) sliceFits_S68x2x8x8x64x128_S1x2x8x8x64x128 = Y
  pointwise

/-- One chunk of the stack of attention matrices. -/
def chunkA (X : FVec Ideal S68x2x8x8x64x64 .f32) (n : ℕ) : FVec Ideal S2x8x8x64x64 .f32 :=
  shapeCast S2x8x8x64x64 (Host.dynamicSlice S1x2x8x8x64x64 X (starts fun _ => BitVec.ofNat 32 n) sliceFits_S68x2x8x8x64x64_S1x2x8x8x64x64) shapeCasts_S1x2x8x8x64x64_S2x8x8x64x64

/-- One chunk of the stack of attention matrices, at an entry. -/
theorem chunkA_at (X : FVec Ideal S68x2x8x8x64x64 .f32) (k : Fin 68) (x : Fin 2) (b h : Fin 8) (c : Fin 64) (v : Fin 64) :
    chunkA X k (ix5 x b h c v) = X (ix6 k x b h c v) := by
  unfold chunkA
  have e := slice_at X (starts fun _ => BitVec.ofNat 32 (k : ℕ)) sliceFits_S68x2x8x8x64x64_S1x2x8x8x64x64 k (toInt_ctr k)
    (fun a ha => starts_zero _ a ha) x b h c v
  rw [← e]
  generalize Host.dynamicSlice S1x2x8x8x64x64 X (starts fun _ => BitVec.ofNat 32 (k : ℕ)) sliceFits_S68x2x8x8x64x64_S1x2x8x8x64x64 = Y
  pointwise

/-- One chunk of the stack of decay factors. -/
def chunkG (X : FVec Ideal S68x2x8x8x1x128 .f32) (n : ℕ) : FVec Ideal S2x8x8x1x128 .f32 :=
  shapeCast S2x8x8x1x128 (Host.dynamicSlice S1x2x8x8x1x128 X (starts fun _ => BitVec.ofNat 32 n) sliceFits_S68x2x8x8x1x128_S1x2x8x8x1x128) shapeCasts_S1x2x8x8x1x128_S2x8x8x1x128

/-- One chunk of the stack of decay factors, at an entry. -/
theorem chunkG_at (X : FVec Ideal S68x2x8x8x1x128 .f32) (k : Fin 68) (x : Fin 2) (b h : Fin 8) (c : Fin 1) (v : Fin 128) :
    chunkG X k (ix5 x b h c v) = X (ix6 k x b h c v) := by
  unfold chunkG
  have e := slice_at X (starts fun _ => BitVec.ofNat 32 (k : ℕ)) sliceFits_S68x2x8x8x1x128_S1x2x8x8x1x128 k (toInt_ctr k)
    (fun a ha => starts_zero _ a ha) x b h c v
  rw [← e]
  obtain rfl : c = 0 := Subsingleton.elim _ _
  generalize Host.dynamicSlice S1x2x8x8x1x128 X (starts fun _ => BitVec.ofNat 32 (k : ℕ)) sliceFits_S68x2x8x8x1x128_S1x2x8x8x1x128 = Y
  pointwise

/-- The step's output as one expression over the chunks. -/
def outStep (k : Fin 68) : FVec Ideal S2x8x8x64x128 .f32 :=
  addf (Host.dotGeneral (φ₁ := .f32) (φ₂ := .f32) dot_S2x8x8x64x128_S2x8x8x128x128_S2x8x8x64x128_4_3_3_4_012_012 none (chunk (xQ V) k) (xS V))
    (Host.dotGeneral (φ₁ := .f32) (φ₂ := .f32) dot_S2x8x8x64x64_S2x8x8x64x128_S2x8x8x64x128_4_3_3_4_012_012 none (chunkA (xA V) k) (res_main_while0b_v111 V : FVec Ideal S2x8x8x64x128 .f32))

variable (k : Fin 68) (hk : V (Proc.devRef .tc main_v91_6) = fun _ => BitVec.ofNat 32 (k : ℕ))
include hk

/-- The step's new values as one expression over the chunks. -/
theorem v111_eq : res_main_while0b_v111 V = subf (chunk (xU V) k)
    (Host.dotGeneral (φ₁ := .f32) (φ₂ := .f32) dot_S2x8x8x64x128_S2x8x8x128x128_S2x8x8x64x128_4_3_3_4_012_012 none (chunk (xW V) k) (xS V)) := by
  unfold res_main_while0b_v111
  rw [hk]
  rfl

/-- The next state as one expression over the chunks. -/
theorem step7_eq : step_main_v91_7 V = addf (mulf (xS V) (broadcastInDim S2x8x8x128x128 ![0, 1, 2, 3, 4] bcast_S2x8x8x1x128_S2x8x8x128x128_0_1_2_3_4 (chunkG (xG V) k)))
    (Host.dotGeneral (φ₁ := .f32) (φ₂ := .f32) dot_S2x8x8x64x128_S2x8x8x64x128_S2x8x8x128x128_3_3_4_4_012_012 none (chunk (xK V) k) (res_main_while0b_v111 V : FVec Ideal S2x8x8x64x128 .f32)) := by
  unfold step_main_v91_7
  rw [hk]
  rfl

/-- The stack of outputs after a step: the step's output written at the counter. -/
theorem step8_eq : step_main_v91_8 V = Host.dynamicUpdateSlice (xO V)
    (broadcastInDim S1x2x8x8x64x128 ![1, 2, 3, 4, 5] bcast_S2x8x8x64x128_S1x2x8x8x64x128_1_2_3_4_5 (outStep V k))
    (starts fun _ => BitVec.ofNat 32 (k : ℕ)) updateFits_S68x2x8x8x64x128_S1x2x8x8x64x128 := by
  unfold step_main_v91_8
  rw [hk]
  rfl

/-- The step's new values, read at an entry. -/
theorem v111_at (x : Fin 2) (b h : Fin 8) (c : Fin 64) (v : Fin 128) :
    (res_main_while0b_v111 V : FVec Ideal S2x8x8x64x128 .f32) (ix5 x b h c v) = vnew V k x b h c v := by
  unfold vnew
  rw [v111_eq V k hk]
  pointwise [chunk_at]

/-- The next state, read at an entry. -/
theorem step7_at (x : Fin 2) (b h : Fin 8) (l : Fin 128) (v : Fin 128) :
    (step_main_v91_7 V : FVec Ideal S2x8x8x128x128 .f32) (ix5 x b h l v) = snew V k x b h l v := by
  unfold snew
  rw [step7_eq V k hk]
  pointwise [chunk_at, chunkG_at, v111_at V k hk]

/-- The step's output, read at an entry. -/
theorem outStep_at (x : Fin 2) (b h : Fin 8) (c : Fin 64) (v : Fin 128) :
    outStep V k (ix5 x b h c v) = onew V k x b h c v := by
  unfold onew outStep
  pointwise [chunk_at, chunkA_at, v111_at V k hk]

/-- The stack of outputs after a step, read at an entry: the step's output in its own row, else as before. -/
theorem step8_at (r : Fin 68) (x : Fin 2) (b h : Fin 8) (c : Fin 64) (v : Fin 128) :
    (step_main_v91_8 V : FVec Ideal S68x2x8x8x64x128 .f32) (ix6 r x b h c v)
      = if r = k then onew V k x b h c v else xO V (ix6 r x b h c v) := by
  rw [step8_eq V k hk, Host.dynamicUpdateSlice_apply]
  have h0 : Host.clampedStart S68x2x8x8x64x128 S1x2x8x8x64x128 rfl (starts fun _ => BitVec.ofNat 32 (k : ℕ)) 0 = k :=
    Host.clampedStart_of_le _ _ 0 k (toInt_ctr k) (by show (k : ℕ) + 1 ≤ 68; omega)
  have hz : ∀ a : Fin 6, a ≠ 0 → Host.clampedStart S68x2x8x8x64x128 S1x2x8x8x64x128 rfl (starts fun _ => BitVec.ofNat 32 (k : ℕ)) a = 0 :=
    fun a ha => by unfold Host.clampedStart; rw [starts_zero _ a ha]; simp
  by_cases e : r = k
  · subst e
    rw [dif_pos, if_pos rfl]
    · rw [← outStep_at V r hk x b h c v]
      have e6 : ∀ (w : S1x2x8x8x64x128.Idx), w = ix6 0 x b h c v →
          broadcastInDim S1x2x8x8x64x128 ![1, 2, 3, 4, 5] bcast_S2x8x8x64x128_S1x2x8x8x64x128_1_2_3_4_5 (outStep V r) w
            = outStep V r (ix5 x b h c v) := by
        intro w hw
        subst hw
        pointwise
      refine e6 _ ?_
      funext a
      apply Fin.ext
      fin_cases a
      · exact (congrArg (fun z => (r : ℕ) - z) h0).trans (Nat.sub_self _)
      · exact (congrArg (fun z => (x : ℕ) - z) (hz 1 (by decide))).trans (Nat.sub_zero _)
      · exact (congrArg (fun z => (b : ℕ) - z) (hz 2 (by decide))).trans (Nat.sub_zero _)
      · exact (congrArg (fun z => (h : ℕ) - z) (hz 3 (by decide))).trans (Nat.sub_zero _)
      · exact (congrArg (fun z => (c : ℕ) - z) (hz 4 (by decide))).trans (Nat.sub_zero _)
      · exact (congrArg (fun z => (v : ℕ) - z) (hz 5 (by decide))).trans (Nat.sub_zero _)
    · intro a
      fin_cases a
      · exact ⟨le_of_eq h0, lt_of_lt_of_eq (Nat.lt_succ_self _) (congrArg (· + 1) h0).symm⟩
      · exact ⟨le_of_eq_of_le (hz 1 (by decide)) (Nat.zero_le _), lt_of_lt_of_eq x.isLt ((congrArg (· + 2) (hz 1 (by decide))).trans (Nat.zero_add _)).symm⟩
      · exact ⟨le_of_eq_of_le (hz 2 (by decide)) (Nat.zero_le _), lt_of_lt_of_eq b.isLt ((congrArg (· + 8) (hz 2 (by decide))).trans (Nat.zero_add _)).symm⟩
      · exact ⟨le_of_eq_of_le (hz 3 (by decide)) (Nat.zero_le _), lt_of_lt_of_eq h.isLt ((congrArg (· + 8) (hz 3 (by decide))).trans (Nat.zero_add _)).symm⟩
      · exact ⟨le_of_eq_of_le (hz 4 (by decide)) (Nat.zero_le _), lt_of_lt_of_eq c.isLt ((congrArg (· + 64) (hz 4 (by decide))).trans (Nat.zero_add _)).symm⟩
      · exact ⟨le_of_eq_of_le (hz 5 (by decide)) (Nat.zero_le _), lt_of_lt_of_eq v.isLt ((congrArg (· + 128) (hz 5 (by decide))).trans (Nat.zero_add _)).symm⟩
  · rw [if_neg e, dif_neg]
    intro hin
    have h1 := hin 0
    rw [h0] at h1
    refine e (Fin.ext ?_)
    have h2 : (k : ℕ) ≤ (r : ℕ) := h1.1
    have h3 : (r : ℕ) < (k : ℕ) + 1 := h1.2
    omega

end Cert.ReferenceIdeal.Rec
-- ==== Proof.RefEntry.lean ====
module

public import proofs.«01_k».proof.Proof.RefStep
public import Idealize.ShloMosaic.Lib.StableHlo.ReadAt

@[expose] public section

set_option maxRecDepth 16384

noncomputable section

namespace Cert.ReferenceIdeal.Rec

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

variable (m : (ℓ : Loc nD τ sig) → Buf (Elt Ideal) ℓ) (c : Dev nD)

/-- The chunk that direction `x` treats at step `k`: the context's four first and then the latent ones forward, all
    of them from the last to the first backward. -/
def chunkOf (x : Fin 2) (k : Fin 68) : Fin 68 :=
  if h : (x : ℕ) < 1 then (if h4 : (k : ℕ) < 4 then ⟨64 + k, by omega⟩ else ⟨k - 4, by omega⟩) else ⟨67 - k, by omega⟩

/-- The forward direction's first four steps treat the context's chunks. -/
theorem chunkOf_ctx (k : Fin 68) (h4 : (k : ℕ) < 4) : chunkOf 0 k = ⟨64 + k, by omega⟩ := by
  unfold chunkOf
  rw [dif_pos (by decide), dif_pos h4]

/-- The forward direction's later steps treat the latent chunks in order. -/
theorem chunkOf_lat (k : Fin 68) (h4 : ¬ (k : ℕ) < 4) : chunkOf 0 k = ⟨k - 4, by omega⟩ := by
  unfold chunkOf
  rw [dif_pos (by decide), dif_neg h4]

/-- The backward direction's steps treat the chunks from the last to the first. -/
theorem chunkOf_bwd (k : Fin 68) : chunkOf 1 k = k.rev := by
  unfold chunkOf
  rw [dif_neg (by decide)]
  apply Fin.ext
  rw [Fin.val_rev]
  show 67 - (k : ℕ) = 68 - ((k : ℕ) + 1)
  omega

/-- At the loop's entry, row `k` of the stack of `u` holds the chunk of step `k`. -/
theorem entry0 (k : Fin 68) (x : Fin 2) (b h : Fin 8) (r : Fin 64) (v : Fin 128) :
    xU (entryContents preI m c) (ix6 k x b h r v)
      = (m ((c.tc : Thread nD τ).loc main_arg0) : FVec Ideal S2x8x68x64x1024 .bf16) (ix5 x b (chunkOf x k) r ⟨h * 128 + v, by omega⟩) := by
  unfold xU
  simp only [entryContents, afterL_cons, afterL_nil]
  after_reads_at
  after_reads_at
  after_reads_at
  pointwise [id]
  by_cases hx : (x : ℕ) < 1
  · have e : x = 0 := Fin.ext (Nat.lt_one_iff.mp hx)
    refine (dif_pos hx).trans ?_
    by_cases h4 : (k : ℕ) < 4
    · refine (dif_pos h4).trans ?_
      refine congrArg (m ((c.tc : Thread nD τ).loc main_arg0)) ((ix5_inj ..).2 ⟨e.symm, rfl, ((chunkOf_ctx k h4).symm.trans (congrArg (chunkOf · k) e.symm)), rfl, rfl⟩)
    · refine (dif_neg h4).trans ?_
      refine congrArg (m ((c.tc : Thread nD τ).loc main_arg0)) ((ix5_inj ..).2 ⟨e.symm, rfl, ((chunkOf_lat k h4).symm.trans (congrArg (chunkOf · k) e.symm)), rfl, rfl⟩)
  · have e : x = 1 := Fin.ext (by have := x.isLt; show (x : ℕ) = 1; omega)
    refine (dif_neg hx).trans ?_
    refine congrArg (m ((c.tc : Thread nD τ).loc main_arg0)) ((ix5_inj ..).2 ⟨e.symm, rfl, ((chunkOf_bwd k).symm.trans (congrArg (chunkOf · k) e.symm)), rfl, rfl⟩)

/-- At the loop's entry, row `k` of the stack of `w` holds the chunk of step `k`: the first half of the pair. -/
theorem entry1 (k : Fin 68) (x : Fin 2) (b h : Fin 8) (r : Fin 64) (v : Fin 128) :
    xW (entryContents preI m c) (ix6 k x b h r v)
      = (m ((c.tc : Thread nD τ).loc main_arg1) : FVec Ideal S2x8x68x128x1024 .bf16) (ix5 x b (chunkOf x k) ⟨r, by omega⟩ ⟨h * 128 + v, by omega⟩) := by
  unfold xW
  simp only [entryContents, afterL_cons, afterL_nil]
  after_reads_at
  after_reads_at
  after_reads_at
  pointwise [id]
  by_cases hx : (x : ℕ) < 1
  · have e : x = 0 := Fin.ext (Nat.lt_one_iff.mp hx)
    refine (dif_pos hx).trans ?_
    by_cases h4 : (k : ℕ) < 4
    · refine (dif_pos h4).trans ?_
      refine congrArg (m ((c.tc : Thread nD τ).loc main_arg1)) ((ix5_inj ..).2 ⟨e.symm, rfl, ((chunkOf_ctx k h4).symm.trans (congrArg (chunkOf · k) e.symm)), rfl, rfl⟩)
    · refine (dif_neg h4).trans ?_
      refine congrArg (m ((c.tc : Thread nD τ).loc main_arg1)) ((ix5_inj ..).2 ⟨e.symm, rfl, ((chunkOf_lat k h4).symm.trans (congrArg (chunkOf · k) e.symm)), rfl, rfl⟩)
  · have e : x = 1 := Fin.ext (by have := x.isLt; show (x : ℕ) = 1; omega)
    refine (dif_neg hx).trans ?_
    refine congrArg (m ((c.tc : Thread nD τ).loc main_arg1)) ((ix5_inj ..).2 ⟨e.symm, rfl, ((chunkOf_bwd k).symm.trans (congrArg (chunkOf · k) e.symm)), rfl, rfl⟩)

/-- At the loop's entry, row `k` of the stack of decayed keys holds the chunk of step `k`. -/
theorem entry2 (k : Fin 68) (x : Fin 2) (b h : Fin 8) (r : Fin 64) (v : Fin 128) :
    xK (entryContents preI m c) (ix6 k x b h r v)
      = (m ((c.tc : Thread nD τ).loc main_arg2) : FVec Ideal S2x8x68x64x1024 .bf16) (ix5 x b (chunkOf x k) r ⟨h * 128 + v, by omega⟩) := by
  unfold xK
  simp only [entryContents, afterL_cons, afterL_nil]
  after_reads_at
  after_reads_at
  after_reads_at
  pointwise [id]
  by_cases hx : (x : ℕ) < 1
  · have e : x = 0 := Fin.ext (Nat.lt_one_iff.mp hx)
    refine (dif_pos hx).trans ?_
    by_cases h4 : (k : ℕ) < 4
    · refine (dif_pos h4).trans ?_
      refine congrArg (m ((c.tc : Thread nD τ).loc main_arg2)) ((ix5_inj ..).2 ⟨e.symm, rfl, ((chunkOf_ctx k h4).symm.trans (congrArg (chunkOf · k) e.symm)), rfl, rfl⟩)
    · refine (dif_neg h4).trans ?_
      refine congrArg (m ((c.tc : Thread nD τ).loc main_arg2)) ((ix5_inj ..).2 ⟨e.symm, rfl, ((chunkOf_lat k h4).symm.trans (congrArg (chunkOf · k) e.symm)), rfl, rfl⟩)
  · have e : x = 1 := Fin.ext (by have := x.isLt; show (x : ℕ) = 1; omega)
    refine (dif_neg hx).trans ?_
    refine congrArg (m ((c.tc : Thread nD τ).loc main_arg2)) ((ix5_inj ..).2 ⟨e.symm, rfl, ((chunkOf_bwd k).symm.trans (congrArg (chunkOf · k) e.symm)), rfl, rfl⟩)

/-- At the loop's entry, row `k` of the stack of decay factors holds the factors of step `k`. -/
theorem entry3 (k : Fin 68) (x : Fin 2) (b h : Fin 8) (r : Fin 1) (v : Fin 128) :
    xG (entryContents preI m c) (ix6 k x b h r v)
      = (m ((c.tc : Thread nD τ).loc main_arg4) : FVec Ideal S2x8x68x1x1024 .f32) (ix5 x b (chunkOf x k) r ⟨h * 128 + v, by omega⟩) := by
  unfold xG
  simp only [entryContents, afterL_cons, afterL_nil]
  after_reads_at
  after_reads_at
  after_reads_at
  pointwise [id]
  by_cases hx : (x : ℕ) < 1
  · have e : x = 0 := Fin.ext (Nat.lt_one_iff.mp hx)
    refine (dif_pos hx).trans ?_
    by_cases h4 : (k : ℕ) < 4
    · refine (dif_pos h4).trans ?_
      refine congrArg (m ((c.tc : Thread nD τ).loc main_arg4)) ((ix5_inj ..).2 ⟨e.symm, rfl, ((chunkOf_ctx k h4).symm.trans (congrArg (chunkOf · k) e.symm)), Subsingleton.elim _ _, rfl⟩)
    · refine (dif_neg h4).trans ?_
      refine congrArg (m ((c.tc : Thread nD τ).loc main_arg4)) ((ix5_inj ..).2 ⟨e.symm, rfl, ((chunkOf_lat k h4).symm.trans (congrArg (chunkOf · k) e.symm)), Subsingleton.elim _ _, rfl⟩)
  · have e : x = 1 := Fin.ext (by have := x.isLt; show (x : ℕ) = 1; omega)
    refine (dif_neg hx).trans ?_
    refine congrArg (m ((c.tc : Thread nD τ).loc main_arg4)) ((ix5_inj ..).2 ⟨e.symm, rfl, ((chunkOf_bwd k).symm.trans (congrArg (chunkOf · k) e.symm)), Subsingleton.elim _ _, rfl⟩)

/-- At the loop's entry, row `k` of the stack of decayed queries holds the chunk of step `k`: the second half of the pair. -/
theorem entry4 (k : Fin 68) (x : Fin 2) (b h : Fin 8) (r : Fin 64) (v : Fin 128) :
    xQ (entryContents preI m c) (ix6 k x b h r v)
      = (m ((c.tc : Thread nD τ).loc main_arg1) : FVec Ideal S2x8x68x128x1024 .bf16) (ix5 x b (chunkOf x k) ⟨64 + r, by omega⟩ ⟨h * 128 + v, by omega⟩) := by
  unfold xQ
  simp only [entryContents, afterL_cons, afterL_nil]
  after_reads_at
  after_reads_at
  after_reads_at
  pointwise [id]
  by_cases hx : (x : ℕ) < 1
  · have e : x = 0 := Fin.ext (Nat.lt_one_iff.mp hx)
    refine (dif_pos hx).trans ?_
    by_cases h4 : (k : ℕ) < 4
    · refine (dif_pos h4).trans ?_
      refine congrArg (m ((c.tc : Thread nD τ).loc main_arg1)) ((ix5_inj ..).2 ⟨e.symm, rfl, ((chunkOf_ctx k h4).symm.trans (congrArg (chunkOf · k) e.symm)), rfl, rfl⟩)
    · refine (dif_neg h4).trans ?_
      refine congrArg (m ((c.tc : Thread nD τ).loc main_arg1)) ((ix5_inj ..).2 ⟨e.symm, rfl, ((chunkOf_lat k h4).symm.trans (congrArg (chunkOf · k) e.symm)), rfl, rfl⟩)
  · have e : x = 1 := Fin.ext (by have := x.isLt; show (x : ℕ) = 1; omega)
    refine (dif_neg hx).trans ?_
    refine congrArg (m ((c.tc : Thread nD τ).loc main_arg1)) ((ix5_inj ..).2 ⟨e.symm, rfl, ((chunkOf_bwd k).symm.trans (congrArg (chunkOf · k) e.symm)), rfl, rfl⟩)

/-- At the loop's entry, row `k` of the stack of attention matrices holds those of step `k`. -/
theorem entry5 (k : Fin 68) (x : Fin 2) (b h : Fin 8) (r : Fin 64) (v : Fin 64) :
    xA (entryContents preI m c) (ix6 k x b h r v)
      = (m ((c.tc : Thread nD τ).loc main_arg3) : FVec Ideal S2x8x68x8x64x64 .bf16) (ix6 x b (chunkOf x k) h r v) := by
  unfold xA
  simp only [entryContents, afterL_cons, afterL_nil]
  after_reads_at
  pointwise [id]
  by_cases hx : (x : ℕ) < 1
  · have e : x = 0 := Fin.ext (Nat.lt_one_iff.mp hx)
    refine (dif_pos hx).trans ?_
    after_reads_at
    by_cases h4 : (k : ℕ) < 4
    · refine (dif_pos h4).trans ?_
      after_reads_at
      refine congrArg (m ((c.tc : Thread nD τ).loc main_arg3)) ((ix6_inj ..).2 ⟨e.symm, rfl, ((chunkOf_ctx k h4).symm.trans (congrArg (chunkOf · k) e.symm)), rfl, rfl, rfl⟩)
    · refine (dif_neg h4).trans ?_
      after_reads_at
      refine congrArg (m ((c.tc : Thread nD τ).loc main_arg3)) ((ix6_inj ..).2 ⟨e.symm, rfl, ((chunkOf_lat k h4).symm.trans (congrArg (chunkOf · k) e.symm)), rfl, rfl, rfl⟩)
  · have e : x = 1 := Fin.ext (by have := x.isLt; show (x : ℕ) = 1; omega)
    refine (dif_neg hx).trans ?_
    after_reads_at
    refine congrArg (m ((c.tc : Thread nD τ).loc main_arg3)) ((ix6_inj ..).2 ⟨e.symm, rfl, ((chunkOf_bwd k).symm.trans (congrArg (chunkOf · k) e.symm)), rfl, rfl, rfl⟩)

/-- At the loop's entry the state is zero. -/
theorem entry7 (x : Fin 2) (b h : Fin 8) (l v : Fin 128) : xS (entryContents preI m c) (ix5 x b h l v) = 0 := by
  unfold xS
  simp only [entryContents, afterL_cons, afterL_nil]
  after_reads_at
  pointwise [id]

end Cert.ReferenceIdeal.Rec
-- ==== Proof.RefLoop.lean ====
module

public import proofs.«01_k».proof.Proof.RefStep
public import Idealize.ShloMosaic.Lib.StableHlo.ReadAt

@[expose] public section

set_option maxRecDepth 16384

noncomputable section

namespace Cert.ReferenceIdeal.Rec

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

variable (m : (ℓ : Loc nD τ sig) → Buf (Elt Ideal) ℓ) (c : Dev nD)

/-! ## The loop's states -/

/-- The loop's state before step `k`. -/
abbrev loopAt (k : ℕ) : Valuation τ sig (Elt Ideal) := STEP^[k] (entryContents preI m c)

/-- One more step. -/
theorem loopAt_succ (k : ℕ) : loopAt m c (k + 1) = STEP (loopAt m c k) := Function.iterate_succ_apply' _ _ _

/-- The stacks do not change. -/
theorem loop0 : ∀ k, xU (loopAt m c k) = xU (entryContents preI m c)
  | 0 => rfl
  | k + 1 => by rw [loopAt_succ]; exact (STEP_main_v91_0 _).trans (loop0 k)
/-- The stacks do not change. -/
theorem loop1 : ∀ k, xW (loopAt m c k) = xW (entryContents preI m c)
  | 0 => rfl
  | k + 1 => by rw [loopAt_succ]; exact (STEP_main_v91_1 _).trans (loop1 k)
/-- The stacks do not change. -/
theorem loop2 : ∀ k, xK (loopAt m c k) = xK (entryContents preI m c)
  | 0 => rfl
  | k + 1 => by rw [loopAt_succ]; exact (STEP_main_v91_2 _).trans (loop2 k)
/-- The stacks do not change. -/
theorem loop3 : ∀ k, xG (loopAt m c k) = xG (entryContents preI m c)
  | 0 => rfl
  | k + 1 => by rw [loopAt_succ]; exact (STEP_main_v91_3 _).trans (loop3 k)
/-- The stacks do not change. -/
theorem loop4 : ∀ k, xQ (loopAt m c k) = xQ (entryContents preI m c)
  | 0 => rfl
  | k + 1 => by rw [loopAt_succ]; exact (STEP_main_v91_4 _).trans (loop4 k)
/-- The stacks do not change. -/
theorem loop5 : ∀ k, xA (loopAt m c k) = xA (entryContents preI m c)
  | 0 => rfl
  | k + 1 => by rw [loopAt_succ]; exact (STEP_main_v91_5 _).trans (loop5 k)

/-- The counter before step `k` is `k`. -/
theorem loop6 : ∀ k, loopAt m c k (Proc.devRef .tc main_v91_6) = fun _ => BitVec.ofNat 32 k
  | 0 => ctr_entry m c
  | k + 1 => by
      rw [loopAt_succ, STEP_main_v91_6]
      unfold step_main_v91_6
      rw [loop6 k]
      funext i
      show BitVec.ofNat 32 k + 1#32 = BitVec.ofNat 32 (k + 1)
      rw [BitVec.ofNat_add]

/-- The state after step `k` from the state before it. -/
theorem loop7 (k : Fin 68) (x : Fin 2) (b h : Fin 8) (l v : Fin 128) :
    xS (loopAt m c (k + 1)) (ix5 x b h l v) = snew (loopAt m c k) k x b h l v := by
  have e : xS (loopAt m c (k + 1)) = step_main_v91_7 (loopAt m c k) := by
    rw [loopAt_succ]; exact STEP_main_v91_7 _
  rw [e]
  exact step7_at (loopAt m c k) k (loop6 m c k) x b h l v

/-- After `n` steps a row of the stack of outputs holds the output of its own step. -/
theorem loop8 (r : Fin 68) (x : Fin 2) (b h : Fin 8) (q : Fin 64) (v : Fin 128) : ∀ n : ℕ, n ≤ 68 → (r : ℕ) < n →
    xO (loopAt m c n) (ix6 r x b h q v) = onew (loopAt m c r) r x b h q v
  | 0, _, h0 => absurd h0 (Nat.not_lt_zero _)
  | n + 1, hn, hr => by
      have e : xO (loopAt m c (n + 1)) = step_main_v91_8 (loopAt m c n) := by
        rw [loopAt_succ]; exact STEP_main_v91_8 _
      rw [e]
      refine (step8_at (loopAt m c n) ⟨n, hn⟩ (loop6 m c n) r x b h q v).trans ?_
      by_cases hrn : r = ⟨n, hn⟩
      · rw [if_pos hrn]
        subst hrn
        rfl
      · rw [if_neg hrn]
        exact loop8 r x b h q v n (by omega) (by
          have : (r : ℕ) ≠ n := fun e => hrn (Fin.ext e)
          omega)

/-- The first result at an index: the forward direction's output of the index's chunk. -/
theorem out_f (b : Fin 8) (j : Fin 4096) (e : Fin 1024) :
    (out_main_v102 (loopAt m c 68) : FVec Ideal S8x4096x1024 .bf16) (ix3 b j e)
      = onew (loopAt m c (4 + j / 64)) ⟨4 + j / 64, by omega⟩ 0 b ⟨e / 128, by omega⟩ ⟨j % 64, by omega⟩ ⟨e % 128, by omega⟩ := by
  rw [← loop8 m c ⟨4 + j / 64, by omega⟩ 0 b ⟨e / 128, by omega⟩ ⟨j % 64, by omega⟩ ⟨e % 128, by omega⟩ 68 le_rfl (by show 4 + (j : ℕ) / 64 < 68; omega)]
  unfold xO
  generalize loopAt m c 68 = V
  pointwise [out_main_v102]

/-- The second result at an index: the backward direction's output of the index's chunk. -/
theorem out_b (b : Fin 8) (j : Fin 4096) (e : Fin 1024) :
    (out_main_v103 (loopAt m c 68) : FVec Ideal S8x4096x1024 .bf16) (ix3 b j e)
      = onew (loopAt m c (67 - j / 64)) ⟨67 - j / 64, by omega⟩ 1 b ⟨e / 128, by omega⟩ ⟨j % 64, by omega⟩ ⟨e % 128, by omega⟩ := by
  rw [← loop8 m c ⟨67 - j / 64, by omega⟩ 1 b ⟨e / 128, by omega⟩ ⟨j % 64, by omega⟩ ⟨e % 128, by omega⟩ 68 le_rfl (by show 67 - (j : ℕ) / 64 < 68; omega)]
  unfold xO
  generalize loopAt m c 68 = V
  pointwise [out_main_v103]
  refine congrArg (V (Proc.devRef .tc main_v91_8)) ?_
  refine (ix6_inj ..).2 ⟨Fin.ext ?_, rfl, rfl, rfl, rfl, rfl⟩
  refine (congrArg (fun z => 4 + z) (Fin.val_rev (⟨(j : ℕ) / 64, by omega⟩ : Fin 64))).trans ?_
  have hj := j.isLt
  show 4 + (64 - ((j : ℕ) / 64 + 1)) = 67 - (j : ℕ) / 64
  omega

end Cert.ReferenceIdeal.Rec
-- ==== Proof.ScanIdx.lean ====
module

public import proofs.«01_k».proof.Proof.Gen.KernelIdeal.Value
public import Idealize.ShloMosaic.Lib.Pointwise
public import Idealize.ShloMosaic.Lib.Pipeline.ValueKit
public import proofs.«01_k».proof.Proof.RefEntry
public import proofs.«01_k».proof.Proof.RefLoop

@[expose] public section

set_option maxRecDepth 16384

noncomputable section

namespace Cert.KernelIdeal.Rec

open Idealize.ShloMosaic Idealize.ShloMosaic.TcCoe Idealize.SL.Sem Idealize.ShloMosaic.Tactic
open Cert.KernelIdeal Cert.KernelIdeal.Gen Cert.KernelIdeal.Value
open Cert.ReferenceIdeal.Rec (chunkOf loopAt xS snew onew vnew)

variable (m : (ℓ : Loc nD τ sig) → Buf (Elt Ideal) ℓ) (c : Dev nD)

/-- The arrays the launch reads. -/
abbrev aU : FVec Ideal S2x8x68x64x1024 .bf16 := m ((c.tc : Thread nD τ).loc main_arg0)
/-- The arrays the launch reads. -/
abbrev aW : FVec Ideal S2x8x68x128x1024 .bf16 := m ((c.tc : Thread nD τ).loc main_arg1)
/-- The arrays the launch reads. -/
abbrev aK : FVec Ideal S2x8x68x64x1024 .bf16 := m ((c.tc : Thread nD τ).loc main_arg2)
/-- The arrays the launch reads. -/
abbrev aA : FVec Ideal S2x8x68x8x64x64 .bf16 := m ((c.tc : Thread nD τ).loc main_arg3)
/-- The arrays the launch reads. -/
abbrev aG : FVec Ideal S2x8x68x1x1024 .f32 := m ((c.tc : Thread nD τ).loc main_arg4)

theorem idx0 : ∀ t : Fin cfg0.N, win0_0.index t = ![0, t.val / 68, (chunkOf 0 ⟨t.val % 68, Nat.mod_lt _ (by decide)⟩).val, 0, 0] :=
  (by decide +kernel : ∀ t : Fin grid0.N, win0_0.index t = ![0, t.val / 68, (chunkOf 0 ⟨t.val % 68, Nat.mod_lt _ (by decide)⟩).val, 0, 0])
/-- A block of the launch, read at an entry: the array at the direction, the batch row and the chunk of the step. -/
theorem blk0 (t : Fin cfg0.N) (b : Fin 8) (k : Fin 68) (bi : Fin 2) (hb : (b : ℕ) = t.val / 68 * 2 + bi) (hk : (k : ℕ) = t.val % 68)
    (r : Fin 64) (e : Fin 1024) : iblk m c 0 t (ix5 0 bi 0 r e) = aU m c (ix5 0 b (chunkOf 0 k) r e) := by
  obtain rfl : k = ⟨t.val % 68, Nat.mod_lt _ (by decide)⟩ := Fin.ext hk
  blk_point [iblk, V, idx0 t]

theorem idx1 : ∀ t : Fin cfg0.N, win0_1.index t = ![1, t.val / 68, (chunkOf 1 ⟨t.val % 68, Nat.mod_lt _ (by decide)⟩).val, 0, 0] :=
  (by decide +kernel : ∀ t : Fin grid0.N, win0_1.index t = ![1, t.val / 68, (chunkOf 1 ⟨t.val % 68, Nat.mod_lt _ (by decide)⟩).val, 0, 0])
/-- A block of the launch, read at an entry: the array at the direction, the batch row and the chunk of the step. -/
theorem blk1 (t : Fin cfg0.N) (b : Fin 8) (k : Fin 68) (bi : Fin 2) (hb : (b : ℕ) = t.val / 68 * 2 + bi) (hk : (k : ℕ) = t.val % 68)
    (r : Fin 64) (e : Fin 1024) : iblk m c 1 t (ix5 0 bi 0 r e) = aU m c (ix5 1 b (chunkOf 1 k) r e) := by
  obtain rfl : k = ⟨t.val % 68, Nat.mod_lt _ (by decide)⟩ := Fin.ext hk
  blk_point [iblk, V, idx1 t]

theorem idx2 : ∀ t : Fin cfg0.N, win0_2.index t = ![0, t.val / 68, (chunkOf 0 ⟨t.val % 68, Nat.mod_lt _ (by decide)⟩).val, 0, 0] :=
  (by decide +kernel : ∀ t : Fin grid0.N, win0_2.index t = ![0, t.val / 68, (chunkOf 0 ⟨t.val % 68, Nat.mod_lt _ (by decide)⟩).val, 0, 0])
/-- A block of the launch, read at an entry: the array at the direction, the batch row and the chunk of the step. -/
theorem blk2 (t : Fin cfg0.N) (b : Fin 8) (k : Fin 68) (bi : Fin 2) (hb : (b : ℕ) = t.val / 68 * 2 + bi) (hk : (k : ℕ) = t.val % 68)
    (r : Fin 128) (e : Fin 1024) : iblk m c 2 t (ix5 0 bi 0 r e) = aW m c (ix5 0 b (chunkOf 0 k) r e) := by
  obtain rfl : k = ⟨t.val % 68, Nat.mod_lt _ (by decide)⟩ := Fin.ext hk
  blk_point [iblk, V, idx2 t]

theorem idx3 : ∀ t : Fin cfg0.N, win0_3.index t = ![1, t.val / 68, (chunkOf 1 ⟨t.val % 68, Nat.mod_lt _ (by decide)⟩).val, 0, 0] :=
  (by decide +kernel : ∀ t : Fin grid0.N, win0_3.index t = ![1, t.val / 68, (chunkOf 1 ⟨t.val % 68, Nat.mod_lt _ (by decide)⟩).val, 0, 0])
/-- A block of the launch, read at an entry: the array at the direction, the batch row and the chunk of the step. -/
theorem blk3 (t : Fin cfg0.N) (b : Fin 8) (k : Fin 68) (bi : Fin 2) (hb : (b : ℕ) = t.val / 68 * 2 + bi) (hk : (k : ℕ) = t.val % 68)
    (r : Fin 128) (e : Fin 1024) : iblk m c 3 t (ix5 0 bi 0 r e) = aW m c (ix5 1 b (chunkOf 1 k) r e) := by
  obtain rfl : k = ⟨t.val % 68, Nat.mod_lt _ (by decide)⟩ := Fin.ext hk
  blk_point [iblk, V, idx3 t]

theorem idx4 : ∀ t : Fin cfg0.N, win0_4.index t = ![0, t.val / 68, (chunkOf 0 ⟨t.val % 68, Nat.mod_lt _ (by decide)⟩).val, 0, 0] :=
  (by decide +kernel : ∀ t : Fin grid0.N, win0_4.index t = ![0, t.val / 68, (chunkOf 0 ⟨t.val % 68, Nat.mod_lt _ (by decide)⟩).val, 0, 0])
/-- A block of the launch, read at an entry: the array at the direction, the batch row and the chunk of the step. -/
theorem blk4 (t : Fin cfg0.N) (b : Fin 8) (k : Fin 68) (bi : Fin 2) (hb : (b : ℕ) = t.val / 68 * 2 + bi) (hk : (k : ℕ) = t.val % 68)
    (r : Fin 64) (e : Fin 1024) : iblk m c 4 t (ix5 0 bi 0 r e) = aK m c (ix5 0 b (chunkOf 0 k) r e) := by
  obtain rfl : k = ⟨t.val % 68, Nat.mod_lt _ (by decide)⟩ := Fin.ext hk
  blk_point [iblk, V, idx4 t]

theorem idx5 : ∀ t : Fin cfg0.N, win0_5.index t = ![1, t.val / 68, (chunkOf 1 ⟨t.val % 68, Nat.mod_lt _ (by decide)⟩).val, 0, 0] :=
  (by decide +kernel : ∀ t : Fin grid0.N, win0_5.index t = ![1, t.val / 68, (chunkOf 1 ⟨t.val % 68, Nat.mod_lt _ (by decide)⟩).val, 0, 0])
/-- A block of the launch, read at an entry: the array at the direction, the batch row and the chunk of the step. -/
theorem blk5 (t : Fin cfg0.N) (b : Fin 8) (k : Fin 68) (bi : Fin 2) (hb : (b : ℕ) = t.val / 68 * 2 + bi) (hk : (k : ℕ) = t.val % 68)
    (r : Fin 64) (e : Fin 1024) : iblk m c 5 t (ix5 0 bi 0 r e) = aK m c (ix5 1 b (chunkOf 1 k) r e) := by
  obtain rfl : k = ⟨t.val % 68, Nat.mod_lt _ (by decide)⟩ := Fin.ext hk
  blk_point [iblk, V, idx5 t]

theorem idx6 : ∀ t : Fin cfg0.N, win0_6.index t = ![0, t.val / 68, (chunkOf 0 ⟨t.val % 68, Nat.mod_lt _ (by decide)⟩).val, 0, 0, 0] :=
  (by decide +kernel : ∀ t : Fin grid0.N, win0_6.index t = ![0, t.val / 68, (chunkOf 0 ⟨t.val % 68, Nat.mod_lt _ (by decide)⟩).val, 0, 0, 0])
/-- A block of the launch, read at an entry: the array at the direction, the batch row and the chunk of the step. -/
theorem blk6 (t : Fin cfg0.N) (b : Fin 8) (k : Fin 68) (bi : Fin 2) (hb : (b : ℕ) = t.val / 68 * 2 + bi) (hk : (k : ℕ) = t.val % 68)
    (h : Fin 8) (r e : Fin 64) : iblk m c 6 t (ix6 0 bi 0 h r e) = aA m c (ix6 0 b (chunkOf 0 k) h r e) := by
  obtain rfl : k = ⟨t.val % 68, Nat.mod_lt _ (by decide)⟩ := Fin.ext hk
  blk_point [iblk, V, idx6 t]

theorem idx7 : ∀ t : Fin cfg0.N, win0_7.index t = ![1, t.val / 68, (chunkOf 1 ⟨t.val % 68, Nat.mod_lt _ (by decide)⟩).val, 0, 0, 0] :=
  (by decide +kernel : ∀ t : Fin grid0.N, win0_7.index t = ![1, t.val / 68, (chunkOf 1 ⟨t.val % 68, Nat.mod_lt _ (by decide)⟩).val, 0, 0, 0])
/-- A block of the launch, read at an entry: the array at the direction, the batch row and the chunk of the step. -/
theorem blk7 (t : Fin cfg0.N) (b : Fin 8) (k : Fin 68) (bi : Fin 2) (hb : (b : ℕ) = t.val / 68 * 2 + bi) (hk : (k : ℕ) = t.val % 68)
    (h : Fin 8) (r e : Fin 64) : iblk m c 7 t (ix6 0 bi 0 h r e) = aA m c (ix6 1 b (chunkOf 1 k) h r e) := by
  obtain rfl : k = ⟨t.val % 68, Nat.mod_lt _ (by decide)⟩ := Fin.ext hk
  blk_point [iblk, V, idx7 t]

theorem idx8 : ∀ t : Fin cfg0.N, win0_8.index t = ![0, t.val / 68, (chunkOf 0 ⟨t.val % 68, Nat.mod_lt _ (by decide)⟩).val, 0, 0] :=
  (by decide +kernel : ∀ t : Fin grid0.N, win0_8.index t = ![0, t.val / 68, (chunkOf 0 ⟨t.val % 68, Nat.mod_lt _ (by decide)⟩).val, 0, 0])
/-- A block of the launch, read at an entry: the array at the direction, the batch row and the chunk of the step. -/
theorem blk8 (t : Fin cfg0.N) (b : Fin 8) (k : Fin 68) (bi : Fin 2) (hb : (b : ℕ) = t.val / 68 * 2 + bi) (hk : (k : ℕ) = t.val % 68)
    (r : Fin 1) (e : Fin 1024) : iblk m c 8 t (ix5 0 bi 0 r e) = aG m c (ix5 0 b (chunkOf 0 k) r e) := by
  obtain rfl : k = ⟨t.val % 68, Nat.mod_lt _ (by decide)⟩ := Fin.ext hk
  blk_point [iblk, V, idx8 t]

theorem idx9 : ∀ t : Fin cfg0.N, win0_9.index t = ![1, t.val / 68, (chunkOf 1 ⟨t.val % 68, Nat.mod_lt _ (by decide)⟩).val, 0, 0] :=
  (by decide +kernel : ∀ t : Fin grid0.N, win0_9.index t = ![1, t.val / 68, (chunkOf 1 ⟨t.val % 68, Nat.mod_lt _ (by decide)⟩).val, 0, 0])
/-- A block of the launch, read at an entry: the array at the direction, the batch row and the chunk of the step. -/
theorem blk9 (t : Fin cfg0.N) (b : Fin 8) (k : Fin 68) (bi : Fin 2) (hb : (b : ℕ) = t.val / 68 * 2 + bi) (hk : (k : ℕ) = t.val % 68)
    (r : Fin 1) (e : Fin 1024) : iblk m c 9 t (ix5 0 bi 0 r e) = aG m c (ix5 1 b (chunkOf 1 k) r e) := by
  obtain rfl : k = ⟨t.val % 68, Nat.mod_lt _ (by decide)⟩ := Fin.ext hk
  blk_point [iblk, V, idx9 t]

end Cert.KernelIdeal.Rec
-- ==== Proof.ScanChain.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Rec

open Idealize.ShloMosaic Idealize.ShloMosaic.TcCoe Idealize.SL.Sem Idealize.ShloMosaic.Tactic
open Cert.KernelIdeal Cert.KernelIdeal.Gen Cert.KernelIdeal.Value

variable (m : (ℓ : Loc nD τ sig) → Buf (Elt Ideal) ℓ) (c : Dev nD)

/-- The pair of products one chain starts with: the rows of `w` and of the decayed queries times the slot's state. -/
abbrev chainM (s : Vec Ideal S1x128x128 .f32) (wq : Vec Ideal S1x1x1x128x128 .bf16) : FVec Ideal S128x128 .f32 :=
  matmul (φ₁ := .bf16) dot_S128x128_S128x128_S128x128_1_0_0_1_n_n none (shapeCast S128x128 wq shapeCasts_S1x1x1x128x128_S128x128)
    (truncf FTy.bf16 (shapeCast S128x128 s shapeCasts_S1x128x128_S128x128) bitsLt_bf16_f32) (constant S128x128 FTy.f32 0#32)

/-- The new values of one chain. -/
abbrev chainV (s : Vec Ideal S1x128x128 .f32) (wq : Vec Ideal S1x1x1x128x128 .bf16) (u : Vec Ideal S1x1x1x64x128 .bf16) :
    FVec Ideal S64x128 .bf16 :=
  truncf FTy.bf16
    (subf (extf FTy.f32 (shapeCast S64x128 u shapeCasts_S1x1x1x64x128_S64x128) bitsLt_bf16_f32)
      (extractStridedSlice S64x128 ![0, 0] (chainM s wq) slices_S128x128_o0_0_S64x128)) bitsLt_bf16_f32

/-- What one recurrence chain leaves in its state slot, from the slot's old state and its slices of the blocks. -/
abbrev chainS (s : Vec Ideal S1x128x128 .f32) (wq : Vec Ideal S1x1x1x128x128 .bf16) (u kd : Vec Ideal S1x1x1x64x128 .bf16)
    (g : Vec Ideal S1x1x1x1x128 .f32) : FVec Ideal S1x128x128 .f32 :=
  shapeCast S1x128x128
    (addf
      (mulf (shapeCast S128x128 s shapeCasts_S1x128x128_S128x128)
        (broadcastTo S128x128 (shapeCast S1x128 g shapeCasts_S1x1x1x1x128_S1x128) broadcasts_S1x128_S128x128))
      (matmul (φ₁ := .bf16) dot_S64x128_S64x128_S128x128_0_0_1_1_n_n none (shapeCast S64x128 kd shapeCasts_S1x1x1x64x128_S64x128)
        (chainV s wq u) (constant S128x128 FTy.f32 0#32)))
    shapeCasts_S128x128_S1x128x128

/-- What one recurrence chain stores into its output's columns. -/
abbrev chainO (s : Vec Ideal S1x128x128 .f32) (wq : Vec Ideal S1x1x1x128x128 .bf16) (u : Vec Ideal S1x1x1x64x128 .bf16)
    (a : Vec Ideal S1x1x1x1x64x64 .bf16) : FVec Ideal S1x64x128 .bf16 :=
  shapeCast S1x64x128
    (truncf FTy.bf16
      (addf (extractStridedSlice S64x128 ![64, 0] (chainM s wq) slices_S128x128_o64_0_S64x128)
        (matmul (φ₁ := .bf16) dot_S64x64_S64x128_S64x128_1_0_0_1_n_n none (shapeCast S64x64 a shapeCasts_S1x1x1x1x64x64_S64x64)
          (chainV s wq u) (constant S64x128 FTy.f32 0#32)))
      bitsLt_bf16_f32)
    shapeCasts_S64x128_S1x64x128

/-- The new values of one chain, at an entry. -/
def bV (U : FVec Ideal S1x2x1x64x1024 .bf16) (W : FVec Ideal S1x2x1x128x1024 .bf16) (S : FVec Ideal S32x128x128 .f32)
    (n : Fin 32) (bi : Fin 2) (h : Fin 8) (r : Fin 64) (v : Fin 128) : EReal :=
  U (ix5 0 bi 0 r ⟨h * 128 + v, by omega⟩) - ∑ l : Fin 128, W (ix5 0 bi 0 ⟨r, by omega⟩ ⟨h * 128 + l, by omega⟩) * S (ix3 n l v)

/-- The new state of one chain, at an entry. -/
def bS (U K : FVec Ideal S1x2x1x64x1024 .bf16) (W : FVec Ideal S1x2x1x128x1024 .bf16) (G : FVec Ideal S1x2x1x1x1024 .f32)
    (S : FVec Ideal S32x128x128 .f32) (n : Fin 32) (bi : Fin 2) (h : Fin 8) (l v : Fin 128) : EReal :=
  S (ix3 n l v) * G (ix5 0 bi 0 0 ⟨h * 128 + v, by omega⟩)
    + ∑ r : Fin 64, K (ix5 0 bi 0 r ⟨h * 128 + l, by omega⟩) * bV U W S n bi h r v

/-- The output of one chain, at an entry. -/
def bO (U : FVec Ideal S1x2x1x64x1024 .bf16) (W : FVec Ideal S1x2x1x128x1024 .bf16) (A : FVec Ideal S1x2x1x8x64x64 .bf16)
    (S : FVec Ideal S32x128x128 .f32) (n : Fin 32) (bi : Fin 2) (h : Fin 8) (r : Fin 64) (v : Fin 128) : EReal :=
  (∑ l : Fin 128, W (ix5 0 bi 0 ⟨64 + r, by omega⟩ ⟨h * 128 + l, by omega⟩) * S (ix3 n l v))
    + ∑ j : Fin 64, A (ix6 0 bi 0 h r j) * bV U W S n bi h j v

section chains
variable (s : Vec Ideal S1x128x128 .f32) (wq : Vec Ideal S1x1x1x128x128 .bf16) (u kd : Vec Ideal S1x1x1x64x128 .bf16)
  (g : Vec Ideal S1x1x1x1x128 .f32) (a : Vec Ideal S1x1x1x1x64x64 .bf16)
  (U K : FVec Ideal S1x2x1x64x1024 .bf16) (W : FVec Ideal S1x2x1x128x1024 .bf16) (G : FVec Ideal S1x2x1x1x1024 .f32)
  (A : FVec Ideal S1x2x1x8x64x64 .bf16) (S : FVec Ideal S32x128x128 .f32) (n : Fin 32) (bi : Fin 2) (h : Fin 8)
  (hs : ∀ (l v : Fin 128), s (ix3 0 l v) = S (ix3 n l v))
  (hw : ∀ (r l : Fin 128), wq (ix5 0 0 0 r l) = W (ix5 0 bi 0 r ⟨h * 128 + l, by omega⟩))
  (hu : ∀ (r : Fin 64) (l : Fin 128), u (ix5 0 0 0 r l) = U (ix5 0 bi 0 r ⟨h * 128 + l, by omega⟩))
  (hk : ∀ (r : Fin 64) (l : Fin 128), kd (ix5 0 0 0 r l) = K (ix5 0 bi 0 r ⟨h * 128 + l, by omega⟩))
  (hg : ∀ (l : Fin 128), g (ix5 0 0 0 0 l) = G (ix5 0 bi 0 0 ⟨h * 128 + l, by omega⟩))
  (ha : ∀ (r j : Fin 64), a (ix6 0 0 0 0 r j) = A (ix6 0 bi 0 h r j))

include hs hw hu hk hg in
/-- A chain's stored state is the recurrence's next state, where its operands are the chain's parts of the blocks. -/
theorem chainS_at (x : S1x128x128.Idx) : chainS s wq u kd g x = bS U K W G S n bi h (x 1) (x 2) := by
  unfold bS bV
  have hx : s x = S (ix3 n (x 1) (x 2)) := by
    refine Eq.trans (congrArg s ?_) (hs (x 1) (x 2))
    have h0 : (x 0).val < 1 := (x 0).isLt
    idx_ext
  pointwise [hs, hw, hu, hk, hg, hx]

include hs hw hu ha in
/-- A chain's stored output is the recurrence's output, where its operands are the chain's parts of the blocks. -/
theorem chainO_at (x : S1x64x128.Idx) : chainO s wq u a x = bO U W A S n bi h (x 1) (x 2) := by
  unfold bO bV
  pointwise [hs, hw, hu, ha]

include hs hw hu hk hg in
/-- The same at an entry given by its row and column. -/
theorem chainS_at' (x : S1x128x128.Idx) (l v : Fin 128) (hl : x 1 = l) (hv : x 2 = v) :
    chainS s wq u kd g x = bS U K W G S n bi h l v :=
  (chainS_at s wq u kd g U K W G S n bi h hs hw hu hk hg x).trans (congrArg₂ (bS U K W G S n bi h) hl hv)

include hs hw hu ha in
/-- The same at an entry given by its row and column. -/
theorem chainO_at' (x : S1x64x128.Idx) (r : Fin 64) (v : Fin 128) (hr : x 1 = r) (hv : x 2 = v) :
    chainO s wq u a x = bO U W A S n bi h r v :=
  (chainO_at s wq u a U W A S n bi h hs hw hu ha x).trans (congrArg₂ (bO U W A S n bi h) hr hv)

end chains

end Cert.KernelIdeal.Rec
-- ==== Proof.ScanBlk.lean ====
module

public import proofs.«01_k».proof.Proof.ScanChain
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384
set_option maxHeartbeats 4000000

noncomputable section

namespace Cert.KernelIdeal.Rec

open Idealize.ShloMosaic Idealize.ShloMosaic.TcCoe Idealize.SL.Sem Idealize.ShloMosaic.Tactic
open Cert.KernelIdeal Cert.KernelIdeal.Gen Cert.KernelIdeal.Value

variable (m : (ℓ : Loc nD τ sig) → Buf (Elt Ideal) ℓ) (c : Dev nD)

/-- Stores made before others do not show where one of the later stores lies. -/
theorem canon_over {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' L y ?_
      obtain ⟨q, hq, hyq⟩ := hy
      rcases List.mem_cons.mp hq with rfl | hq'
      · exact absurd hyq hm
      · exact ⟨q, hq', hyq⟩

/-- The slot's next state, at a slot of a known direction: the parts of the blocks of that direction. -/
def bSt (t : Fin cfg0.N) (S : FVec Ideal S32x128x128 .f32) (y : S32x128x128.Idx) : EReal :=
  if ((y 0).val / 8) % 2 = 0 then
    bS (iblk m c 0 t) (iblk m c 4 t) (iblk m c 2 t) (iblk m c 8 t) S (y 0) ⟨(y 0).val / 16, by have := (y 0).isLt; change _ < 32 at this; omega⟩
      ⟨(y 0).val % 8, by omega⟩ (y 1) (y 2)
  else
    bS (iblk m c 1 t) (iblk m c 5 t) (iblk m c 3 t) (iblk m c 9 t) S (y 0) ⟨(y 0).val / 16, by have := (y 0).isLt; change _ < 32 at this; omega⟩
      ⟨(y 0).val % 8, by omega⟩ (y 1) (y 2)

/-- The output row of one direction: the direction's parts of the blocks, at the head the column lies in. -/
def bOt (U : FVec Ideal S1x2x1x64x1024 .bf16) (W : FVec Ideal S1x2x1x128x1024 .bf16) (A : FVec Ideal S1x2x1x8x64x64 .bf16)
    (S : FVec Ideal S32x128x128 .f32) (d : Fin 2) (y : S2x64x1024.Idx) : EReal :=
  bO U W A S ⟨((y 0).val * 2 + d.val) * 8 + (y 2).val / 128, by have h0 : (y 0).val < 2 := (y 0).isLt; have h2 : (y 2).val < 1024 := (y 2).isLt; omega⟩
    (y 0) ⟨(y 2).val / 128, by have h2 : (y 2).val < 1024 := (y 2).isLt; omega⟩ (y 1) ⟨(y 2).val % 128, by omega⟩

/-- Away from the first point of a sweep, every state slot holds the recurrence's next state from the state the point before left. -/
theorem stateB (t : Fin cfg0.N) (h : ¬ t.val % 68 = 0) (y : S32x128x128.Idx) :
    (outsAt0 m c t.val t.isLt).2.2 y = bSt m c t ((outsAt0 m c (t.val - 1) (by omega)).2.2) y := by
  rw [Gen.outsAt0_B m c t h]
  frame_out
  canon_tiles x hh
  all_goals
    open_payloads
    unfold bSt
    first | rw [if_pos (by omega)] | rw [if_neg (by omega)]
    refine chainS_at' _ _ _ _ _ _ _ _ _ _ _ _ _ ?_ ?_ ?_ ?_ ?_ x _ _ (Fin.ext (by omega)) (Fin.ext (by omega))
    · intro l v
      pointwise [read_unread_whole]
      blk_ext
    all_goals (intros; pointwise; blk_ext)

/-- Away from the first point of a sweep, the forward output block holds the recurrence's output from the state the point before left. -/
theorem outFB (t : Fin cfg0.N) (h : ¬ t.val % 68 = 0) (y : S2x64x1024.Idx) :
    (outsAt0 m c t.val t.isLt).1 y = bOt (iblk m c 0 t) (iblk m c 2 t) (iblk m c 6 t) ((outsAt0 m c (t.val - 1) (by omega)).2.2) 0 y := by
  rw [Gen.outsAt0_B m c t h]
  frame_out
  canon_tiles x hh
  all_goals
    open_payloads
    unfold bOt
    refine chainO_at' _ _ _ _ _ _ _ _ _ _ _ ?_ ?_ ?_ ?_ x _ _ (Fin.ext (by omega)) (Fin.ext (by show (x 2).val = (y 2).val % 128; omega))
    · intro l v
      pointwise [read_unread_whole]
      blk_ext
    all_goals (intros; pointwise; blk_ext)

/-- Away from the first point of a sweep, the backward output block holds the recurrence's output from the state the point before left. -/
theorem outBB (t : Fin cfg0.N) (h : ¬ t.val % 68 = 0) (y : S2x64x1024.Idx) :
    (outsAt0 m c t.val t.isLt).2.1 y = bOt (iblk m c 1 t) (iblk m c 3 t) (iblk m c 7 t) ((outsAt0 m c (t.val - 1) (by omega)).2.2) 1 y := by
  rw [Gen.outsAt0_B m c t h]
  frame_out
  canon_tiles x hh
  all_goals
    open_payloads
    unfold bOt
    refine chainO_at' _ _ _ _ _ _ _ _ _ _ _ ?_ ?_ ?_ ?_ x _ _ (Fin.ext (by omega)) (Fin.ext (by show (x 2).val = (y 2).val % 128; omega))
    · intro l v
      pointwise [read_unread_whole]
      blk_ext
    all_goals (intros; pointwise; blk_ext)

/-- At the first point of a sweep, every state slot holds the recurrence's next state from the zero state. -/
theorem stateA (t : Fin cfg0.N) (h : t.val % 68 = 0) (y : S32x128x128.Idx) :
    (outsAt0 m c t.val t.isLt).2.2 y = bSt m c t (fun _ => 0) y := by
  rw [Gen.outsAt0_A m c t h]
  frame_out
  refine (canon_over [_] [_, _, _, _, _, _, _, _, _, _, _, _, _, _, _, _, _, _, _, _, _, _, _, _, _, _, _, _, _, _, _, _] y ?_).trans ?_
  · exact View.cover_of_tiled_head _ _ _ (by rfl) _
  canon_tiles x hh
  all_goals
    open_payloads
    unfold bSt
    first | rw [if_pos (by omega)] | rw [if_neg (by omega)]
    refine chainS_at' _ _ _ _ _ _ _ _ _ _ _ _ _ ?_ ?_ ?_ ?_ ?_ x _ _ (Fin.ext (by omega)) (Fin.ext (by omega))
    · intro l v
      pointwise [View.readCov_fill]
    all_goals (intros; pointwise; blk_ext)

/-- At the first point of a sweep, the forward output block holds the recurrence's output from the zero state. -/
theorem outFA (t : Fin cfg0.N) (h : t.val % 68 = 0) (y : S2x64x1024.Idx) :
    (outsAt0 m c t.val t.isLt).1 y = bOt (iblk m c 0 t) (iblk m c 2 t) (iblk m c 6 t) (fun _ => 0) 0 y := by
  rw [Gen.outsAt0_A m c t h]
  frame_out
  canon_tiles x hh
  all_goals
    open_payloads
    unfold bOt
    refine chainO_at' _ _ _ _ _ _ _ _ _ _ _ ?_ ?_ ?_ ?_ x _ _ (Fin.ext (by omega)) (Fin.ext (by show (x 2).val = (y 2).val % 128; omega))
    · intro l v
      pointwise [View.readCov_fill]
    all_goals (intros; pointwise; blk_ext)

/-- At the first point of a sweep, the backward output block holds the recurrence's output from the zero state. -/
theorem outBA (t : Fin cfg0.N) (h : t.val % 68 = 0) (y : S2x64x1024.Idx) :
    (outsAt0 m c t.val t.isLt).2.1 y = bOt (iblk m c 1 t) (iblk m c 3 t) (iblk m c 7 t) (fun _ => 0) 1 y := by
  rw [Gen.outsAt0_A m c t h]
  frame_out
  canon_tiles x hh
  all_goals
    open_payloads
    unfold bOt
    refine chainO_at' _ _ _ _ _ _ _ _ _ _ _ ?_ ?_ ?_ ?_ x _ _ (Fin.ext (by omega)) (Fin.ext (by show (x 2).val = (y 2).val % 128; omega))
    · intro l v
      pointwise [View.readCov_fill]
    all_goals (intros; pointwise; blk_ext)

end Cert.KernelIdeal.Rec
-- ==== Proof.ScanState.lean ====
module

public import proofs.«01_k».proof.Proof.Gen.KernelIdeal.Value
public import Idealize.ShloMosaic.Lib.Pointwise
public import Idealize.ShloMosaic.Lib.Pipeline.ValueKit
public import proofs.«01_k».proof.Proof.ScanIdx
public import proofs.«01_k».proof.Proof.ScanBlk
public import proofs.«01_k».proof.Proof.RefEntry
public import proofs.«01_k».proof.Proof.RefLoop

@[expose] public section

set_option maxRecDepth 16384

noncomputable section

namespace Cert.KernelIdeal.Rec

open Idealize.ShloMosaic Idealize.ShloMosaic.TcCoe Idealize.SL.Sem Idealize.ShloMosaic.Tactic
open Cert.KernelIdeal Cert.KernelIdeal.Gen Cert.KernelIdeal.Value
open Cert.ReferenceIdeal.Rec (chunkOf loopAt xS snew onew vnew)

open Cert.ReferenceIdeal.Rec (xU xW xK xG xQ xA)

variable (m : (ℓ : Loc nD τ sig) → Buf (Elt Ideal) ℓ) (c : Dev nD)

variable (m' : (ℓ : Loc Cert.ReferenceIdeal.nD Cert.ReferenceIdeal.τ Cert.ReferenceIdeal.sig) → Buf (Elt Ideal) ℓ)

/-- The two memories hold the same arguments. -/
structure Same : Prop where
  h0 : m' ((c.tc : Thread Cert.ReferenceIdeal.nD Cert.ReferenceIdeal.τ).loc Cert.ReferenceIdeal.main_arg0) = aU m c
  h1 : m' ((c.tc : Thread Cert.ReferenceIdeal.nD Cert.ReferenceIdeal.τ).loc Cert.ReferenceIdeal.main_arg1) = aW m c
  h2 : m' ((c.tc : Thread Cert.ReferenceIdeal.nD Cert.ReferenceIdeal.τ).loc Cert.ReferenceIdeal.main_arg2) = aK m c
  h3 : m' ((c.tc : Thread Cert.ReferenceIdeal.nD Cert.ReferenceIdeal.τ).loc Cert.ReferenceIdeal.main_arg3) = aA m c
  h4 : m' ((c.tc : Thread Cert.ReferenceIdeal.nD Cert.ReferenceIdeal.τ).loc Cert.ReferenceIdeal.main_arg4) = aG m c

variable (H : Same m c m')

include H in
/-- A step's operand of the reference, as an entry of the argument. -/
theorem refU (n : ℕ) (k : Fin 68) (x : Fin 2) (b h : Fin 8) (r : Fin 64) (v : Fin 128) :
    xU (loopAt m' c n) (ix6 k x b h r v) = aU m c (ix5 x b (chunkOf x k) r ⟨h * 128 + v, by omega⟩) := by
  rw [Cert.ReferenceIdeal.Rec.loop0, Cert.ReferenceIdeal.Rec.entry0]
  exact congrFun H.h0 _

include H in
/-- A step's operand of the reference, as an entry of the argument. -/
theorem refW (n : ℕ) (k : Fin 68) (x : Fin 2) (b h : Fin 8) (r : Fin 64) (v : Fin 128) :
    xW (loopAt m' c n) (ix6 k x b h r v) = aW m c (ix5 x b (chunkOf x k) ⟨r, by omega⟩ ⟨h * 128 + v, by omega⟩) := by
  rw [Cert.ReferenceIdeal.Rec.loop1, Cert.ReferenceIdeal.Rec.entry1]
  exact congrFun H.h1 _

include H in
/-- A step's operand of the reference, as an entry of the argument. -/
theorem refK (n : ℕ) (k : Fin 68) (x : Fin 2) (b h : Fin 8) (r : Fin 64) (v : Fin 128) :
    xK (loopAt m' c n) (ix6 k x b h r v) = aK m c (ix5 x b (chunkOf x k) r ⟨h * 128 + v, by omega⟩) := by
  rw [Cert.ReferenceIdeal.Rec.loop2, Cert.ReferenceIdeal.Rec.entry2]
  exact congrFun H.h2 _

include H in
/-- A step's operand of the reference, as an entry of the argument. -/
theorem refG (n : ℕ) (k : Fin 68) (x : Fin 2) (b h : Fin 8) (r : Fin 1) (v : Fin 128) :
    xG (loopAt m' c n) (ix6 k x b h r v) = aG m c (ix5 x b (chunkOf x k) r ⟨h * 128 + v, by omega⟩) := by
  rw [Cert.ReferenceIdeal.Rec.loop3, Cert.ReferenceIdeal.Rec.entry3]
  exact congrFun H.h4 _

include H in
/-- A step's operand of the reference, as an entry of the argument. -/
theorem refQ (n : ℕ) (k : Fin 68) (x : Fin 2) (b h : Fin 8) (r : Fin 64) (v : Fin 128) :
    xQ (loopAt m' c n) (ix6 k x b h r v) = aW m c (ix5 x b (chunkOf x k) ⟨64 + r, by omega⟩ ⟨h * 128 + v, by omega⟩) := by
  rw [Cert.ReferenceIdeal.Rec.loop4, Cert.ReferenceIdeal.Rec.entry4]
  exact congrFun H.h1 _

include H in
/-- A step's operand of the reference, as an entry of the argument. -/
theorem refA (n : ℕ) (k : Fin 68) (x : Fin 2) (b h : Fin 8) (r v : Fin 64) :
    xA (loopAt m' c n) (ix6 k x b h r v) = aA m c (ix6 x b (chunkOf x k) h r v) := by
  rw [Cert.ReferenceIdeal.Rec.loop5, Cert.ReferenceIdeal.Rec.entry5]
  exact congrFun H.h3 _

section one
variable (U K : FVec Ideal S1x2x1x64x1024 .bf16) (W : FVec Ideal S1x2x1x128x1024 .bf16) (G : FVec Ideal S1x2x1x1x1024 .f32)
  (A : FVec Ideal S1x2x1x8x64x64 .bf16) (S : FVec Ideal S32x128x128 .f32) (n : Fin 32) (bi : Fin 2) (h : Fin 8)
  (k : Fin 68) (x : Fin 2) (b : Fin 8)
  (hU : ∀ (r : Fin 64) (e : Fin 1024), U (ix5 0 bi 0 r e) = aU m c (ix5 x b (chunkOf x k) r e))
  (hW : ∀ (r : Fin 128) (e : Fin 1024), W (ix5 0 bi 0 r e) = aW m c (ix5 x b (chunkOf x k) r e))
  (hK : ∀ (r : Fin 64) (e : Fin 1024), K (ix5 0 bi 0 r e) = aK m c (ix5 x b (chunkOf x k) r e))
  (hG : ∀ (r : Fin 1) (e : Fin 1024), G (ix5 0 bi 0 r e) = aG m c (ix5 x b (chunkOf x k) r e))
  (hA : ∀ (h : Fin 8) (r e : Fin 64), A (ix6 0 bi 0 h r e) = aA m c (ix6 x b (chunkOf x k) h r e))
  (hS : ∀ l v : Fin 128, S (ix3 n l v) = xS (loopAt m' c k) (ix5 x b h l v))

include H hU hW hS in
/-- A chain's new values are the reference's. -/
theorem bV_eq (r : Fin 64) (v : Fin 128) : bV U W S n bi h r v = vnew (loopAt m' c k) k x b h r v := by
  unfold bV vnew
  simp only [hU, hW, hS, refU m c m' H, refW m c m' H]

include H hU hW hK hG hS in
/-- A chain's new state is the reference's state before the next step. -/
theorem bS_eq (l v : Fin 128) : bS U K W G S n bi h l v = xS (loopAt m' c (k + 1)) (ix5 x b h l v) := by
  rw [Cert.ReferenceIdeal.Rec.loop7]
  unfold bS snew
  simp only [hK, hG, hS, refK m c m' H, refG m c m' H, bV_eq m c m' H U W S n bi h k x b hU hW hS]

include H hU hW hA hS in
/-- A chain's output is the reference's output of the step. -/
theorem bO_eq (r : Fin 64) (v : Fin 128) : bO U W A S n bi h r v = onew (loopAt m' c k) k x b h r v := by
  unfold bO onew
  simp only [hW, hA, hS, refQ m c m' H, refA m c m' H, bV_eq m c m' H U W S n bi h k x b hU hW hS]
end one

/-- What a point finds in the state: zero at a sweep's first point, else what the point before left. -/
def before (t : Fin cfg0.N) : FVec Ideal S32x128x128 .f32 :=
  if h : t.val % 68 = 0 then fun _ => 0 else (outsAt0 m c (t.val - 1) (by omega)).2.2

/-- Every point's state, from what it finds. -/
theorem state_eq (t : Fin cfg0.N) (y : S32x128x128.Idx) : (outsAt0 m c t.val t.isLt).2.2 y = bSt m c t (before m c t) y := by
  unfold before
  by_cases h : t.val % 68 = 0
  · rw [dif_pos h]; exact stateA m c t h y
  · rw [dif_neg h]; exact stateB m c t h y

/-- Every point's forward output block, from what it finds. -/
theorem outF_eq (t : Fin cfg0.N) (y : S2x64x1024.Idx) :
    (outsAt0 m c t.val t.isLt).1 y = bOt (iblk m c 0 t) (iblk m c 2 t) (iblk m c 6 t) (before m c t) 0 y := by
  unfold before
  by_cases h : t.val % 68 = 0
  · rw [dif_pos h]; exact outFA m c t h y
  · rw [dif_neg h]; exact outFB m c t h y

/-- Every point's backward output block, from what it finds. -/
theorem outB_eq (t : Fin cfg0.N) (y : S2x64x1024.Idx) :
    (outsAt0 m c t.val t.isLt).2.1 y = bOt (iblk m c 1 t) (iblk m c 3 t) (iblk m c 7 t) (before m c t) 1 y := by
  unfold before
  by_cases h : t.val % 68 = 0
  · rw [dif_pos h]; exact outBA m c t h y
  · rw [dif_neg h]; exact outBB m c t h y

include H in
/-- If a point finds the reference's state before its step, it leaves the reference's state after it. -/
theorem state_step (t : Fin cfg0.N) (k : Fin 68) (hk : (k : ℕ) = t.val % 68) (ht : t.val < 272)
    (hS : ∀ (x bi : Fin 2) (h : Fin 8) (b : Fin 8) (n : Fin 32) (hb : (b : ℕ) = t.val / 68 * 2 + bi) (hn : (n : ℕ) = (bi * 2 + x) * 8 + h)
      (l v : Fin 128), before m c t (ix3 n l v) = xS (loopAt m' c k) (ix5 x b h l v))
    (x bi : Fin 2) (h : Fin 8) (b : Fin 8) (n : Fin 32) (hb : (b : ℕ) = t.val / 68 * 2 + bi) (hn : (n : ℕ) = (bi * 2 + x) * 8 + h)
    (l v : Fin 128) : (outsAt0 m c t.val t.isLt).2.2 (ix3 n l v) = xS (loopAt m' c (k + 1)) (ix5 x b h l v) := by
  rw [state_eq]
  unfold bSt
  have e1 : (⟨n.val / 16, by omega⟩ : Fin 2) = bi := Fin.ext (by show n.val / 16 = bi.val; omega)
  have e2 : (⟨n.val % 8, by omega⟩ : Fin 8) = h := Fin.ext (by show n.val % 8 = h.val; omega)
  by_cases hx : (x : ℕ) = 0
  · obtain rfl : x = 0 := Fin.ext hx
    refine (if_pos (by show n.val / 8 % 2 = 0; omega)).trans ?_
    refine Eq.trans (b := bS (iblk m c 0 t) (iblk m c 4 t) (iblk m c 2 t) (iblk m c 8 t) (before m c t) n bi h l v) ?_ ?_
    · exact congrArg₂ (fun bi h => bS (iblk m c 0 t) (iblk m c 4 t) (iblk m c 2 t) (iblk m c 8 t) (before m c t) n bi h l v) e1 e2
    · exact bS_eq m c m' H _ _ _ _ _ n bi h k 0 b (fun r e => blk0 m c t b k bi hb hk r e) (fun r e => blk2 m c t b k bi hb hk r e)
        (fun r e => blk4 m c t b k bi hb hk r e) (fun r e => blk8 m c t b k bi hb hk r e) (fun l v => hS 0 bi h b n hb hn l v) l v
  · obtain rfl : x = 1 := Fin.ext (by show (x : ℕ) = 1; omega)
    refine (if_neg (by show ¬ n.val / 8 % 2 = 0; change n.val = (bi.val * 2 + 1) * 8 + h.val at hn; omega)).trans ?_
    refine Eq.trans (b := bS (iblk m c 1 t) (iblk m c 5 t) (iblk m c 3 t) (iblk m c 9 t) (before m c t) n bi h l v) ?_ ?_
    · exact congrArg₂ (fun bi h => bS (iblk m c 1 t) (iblk m c 5 t) (iblk m c 3 t) (iblk m c 9 t) (before m c t) n bi h l v) e1 e2
    · exact bS_eq m c m' H _ _ _ _ _ n bi h k 1 b (fun r e => blk1 m c t b k bi hb hk r e) (fun r e => blk3 m c t b k bi hb hk r e)
        (fun r e => blk5 m c t b k bi hb hk r e) (fun r e => blk9 m c t b k bi hb hk r e) (fun l v => hS 1 bi h b n hb hn l v) l v

include H in
/-- Every point finds the reference's state before its step. -/
theorem before_eq : ∀ (q : ℕ) (t : Fin cfg0.N) (hq : t.val = q) (ht : t.val < 272) (x bi : Fin 2) (h : Fin 8) (b : Fin 8) (n : Fin 32)
    (hb : (b : ℕ) = t.val / 68 * 2 + bi) (hn : (n : ℕ) = (bi * 2 + x) * 8 + h) (l v : Fin 128),
    before m c t (ix3 n l v) = xS (loopAt m' c (t.val % 68)) (ix5 x b h l v) := by
  intro q
  induction q with
  | zero =>
    intro t hq ht x bi h b n hb hn l v
    have h0 : t.val % 68 = 0 := by omega
    unfold before
    rw [dif_pos h0, h0]
    exact (Cert.ReferenceIdeal.Rec.entry7 m' c x b h l v).symm
  | succ q ih =>
    intro t hq ht x bi h b n hb hn l v
    by_cases h0 : t.val % 68 = 0
    · unfold before
      rw [dif_pos h0, h0]
      exact (Cert.ReferenceIdeal.Rec.entry7 m' c x b h l v).symm
    · have hb' : (b : ℕ) = (t.val - 1) / 68 * 2 + bi := by omega
      have e : t.val % 68 = (t.val - 1) % 68 + 1 := by omega
      have st := state_step m c m' H ⟨t.val - 1, by omega⟩ ⟨(t.val - 1) % 68, Nat.mod_lt _ (by decide)⟩ rfl (by show t.val - 1 < 272; omega)
        (fun x bi h b n hb hn l v => ih ⟨t.val - 1, by omega⟩ (by show t.val - 1 = q; omega) (by show t.val - 1 < 272; omega) x bi h b n hb hn l v)
        x bi h b n hb' hn l v
      unfold before
      rw [dif_neg h0, e]
      exact st

end Cert.KernelIdeal.Rec
-- ==== Proof.ScanFinal.lean ====
module

public import proofs.«01_k».proof.Proof.Gen.KernelIdeal.Value
public import Idealize.ShloMosaic.Lib.Pointwise
public import Idealize.ShloMosaic.Lib.Pipeline.ValueKit
public import proofs.«01_k».proof.Proof.ScanState
public import proofs.«01_k».proof.Proof.ScanIdx
public import proofs.«01_k».proof.Proof.ScanBlk
public import proofs.«01_k».proof.Proof.RefEntry
public import proofs.«01_k».proof.Proof.RefLoop

@[expose] public section

set_option maxRecDepth 16384

noncomputable section

namespace Cert.KernelIdeal.Rec

open Idealize.ShloMosaic Idealize.ShloMosaic.TcCoe Idealize.SL.Sem Idealize.ShloMosaic.Tactic
open Cert.KernelIdeal Cert.KernelIdeal.Gen Cert.KernelIdeal.Value
open Cert.ReferenceIdeal.Rec (chunkOf loopAt xS snew onew vnew)

open Cert.ReferenceIdeal.Rec (xU xW xK xG xQ xA)

variable (m : (ℓ : Loc nD τ sig) → Buf (Elt Ideal) ℓ) (c : Dev nD)

open Cert.ReferenceIdeal.Value (out_main_v102 out_main_v103)

variable (m' : (ℓ : Loc Cert.ReferenceIdeal.nD Cert.ReferenceIdeal.τ Cert.ReferenceIdeal.sig) → Buf (Elt Ideal) ℓ)
variable (H : Same m c m')

theorem idx10 : ∀ t : Fin cfg0.N, win0_10.index t = ![t.val / 68, t.val % 68 - 4, 0] :=
  (by decide +kernel : ∀ t : Fin grid0.N, win0_10.index t = ![t.val / 68, t.val % 68 - 4, 0])

theorem idx11 : ∀ t : Fin cfg0.N, win0_11.index t = ![t.val / 68, min (67 - t.val % 68) 63, 0] :=
  (by decide +kernel : ∀ t : Fin grid0.N, win0_11.index t = ![t.val / 68, min (67 - t.val % 68) 63, 0])

/-- The forward output's blocks are written back at the latent steps. -/
theorem flush10 : ∀ t : Fin cfg0.N, (cfg0.win 10).flush t = true → 4 ≤ t.val % 68 :=
  (by decide +kernel : ∀ t : Fin grid0.N, win0_10.flush t = true → 4 ≤ t.val % 68)

/-- The backward output's blocks are written back at the latent steps. -/
theorem flush11 : ∀ t : Fin cfg0.N, (cfg0.win 11).flush t = true → 4 ≤ t.val % 68 :=
  (by decide +kernel : ∀ t : Fin grid0.N, win0_11.flush t = true → 4 ≤ t.val % 68)

include H in
/-- The forward output block a point leaves is the reference's output of its step. -/
theorem rowF (t : Fin cfg0.N) (ht : t.val < 272) (y : S2x64x1024.Idx) (k : Fin 68) (hk : (k : ℕ) = t.val % 68) (b h : Fin 8)
    (r : Fin 64) (v : Fin 128) (hb : (b : ℕ) = t.val / 68 * 2 + (y 0).val) (hh : (h : ℕ) = (y 2).val / 128)
    (hr : (r : ℕ) = (y 1).val) (hv : (v : ℕ) = (y 2).val % 128) :
    (outsAt0 m c t.val t.isLt).1 y = onew (loopAt m' c k) k 0 b h r v := by
  rw [outF_eq]
  unfold bOt
  have h2 : (y 2).val / 128 < 8 := Nat.div_lt_of_lt_mul (y 2).isLt
  have e1 : h = ⟨(y 2).val / 128, h2⟩ := Fin.ext hh
  have e2 : v = ⟨(y 2).val % 128, Nat.mod_lt _ (by decide)⟩ := Fin.ext hv
  have e3 : r = y 1 := Fin.ext hr
  subst e1 e2 e3
  refine bO_eq m c m' H _ _ _ _ _ _ _ k 0 b (fun r e => blk0 m c t b k _ hb hk r e) (fun r e => blk2 m c t b k _ hb hk r e)
    (fun h r e => blk6 m c t b k _ hb hk h r e) (fun l v => ?_) _ _
  rw [hk]
  exact before_eq m c m' H t.val t rfl ht 0 (y 0) _ b _ hb rfl l v

include H in
/-- The backward output block a point leaves is the reference's output of its step. -/
theorem rowB (t : Fin cfg0.N) (ht : t.val < 272) (y : S2x64x1024.Idx) (k : Fin 68) (hk : (k : ℕ) = t.val % 68) (b h : Fin 8)
    (r : Fin 64) (v : Fin 128) (hb : (b : ℕ) = t.val / 68 * 2 + (y 0).val) (hh : (h : ℕ) = (y 2).val / 128)
    (hr : (r : ℕ) = (y 1).val) (hv : (v : ℕ) = (y 2).val % 128) :
    (outsAt0 m c t.val t.isLt).2.1 y = onew (loopAt m' c k) k 1 b h r v := by
  rw [outB_eq]
  unfold bOt
  have h2 : (y 2).val / 128 < 8 := Nat.div_lt_of_lt_mul (y 2).isLt
  have e1 : h = ⟨(y 2).val / 128, h2⟩ := Fin.ext hh
  have e2 : v = ⟨(y 2).val % 128, Nat.mod_lt _ (by decide)⟩ := Fin.ext hv
  have e3 : r = y 1 := Fin.ext hr
  subst e1 e2 e3
  refine bO_eq m c m' H _ _ _ _ _ _ _ k 1 b (fun r e => blk1 m c t b k _ hb hk r e) (fun r e => blk3 m c t b k _ hb hk r e)
    (fun h r e => blk7 m c t b k _ hb hk h r e) (fun l v => ?_) _ _
  rw [hk]
  exact before_eq m c m' H t.val t rfl ht 1 (y 0) _ b _ hb rfl l v

include H in
/-- The forward output array after the launch is the reference's first result. -/
theorem final10 : (dats m 0 c).arrAt 10 (cfgs 0).N = out_main_v102 (loopAt m' c 68) := by
  refine (dats m 0 c).arrAt_eq_of_covers 10 _ (by decide +kernel) fun t hf y => ?_
  have ht : t.val < 272 := lt_of_lt_of_eq t.isLt Gen.N_0
  have h4 := flush10 t hf
  blk_simp
  rw [after0_10]
  have y0 : (y 0).val < 2 := (y 0).isLt
  have y1 : (y 1).val < 64 := (y 1).isLt
  have y2 : (y 2).val < 1024 := (y 2).isLt
  obtain ⟨j, hj⟩ : ∃ j : Fin 4096, (j : ℕ) = (t.val % 68 - 4) * 64 + (y 1).val := ⟨⟨(t.val % 68 - 4) * 64 + (y 1).val, by omega⟩, rfl⟩
  obtain ⟨b, hb⟩ : ∃ b : Fin 8, (b : ℕ) = t.val / 68 * 2 + (y 0).val := ⟨⟨t.val / 68 * 2 + (y 0).val, by omega⟩, rfl⟩
  obtain ⟨e, he⟩ : ∃ e : Fin 1024, (e : ℕ) = (y 2).val := ⟨⟨(y 2).val, y2⟩, rfl⟩
  have hemb : (win0_10.blk t).view.emb y = ix3 b j e := by
    blk_ext [idx10 t]
  refine Eq.trans ?_ ((congrArg (out_main_v102 (loopAt m' c 68)) hemb).trans (Cert.ReferenceIdeal.Rec.out_f m' c b j e)).symm
  exact rowF m c m' H t ht y ⟨4 + j.val / 64, by omega⟩ (by show 4 + j.val / 64 = t.val % 68; omega) b _ _ _ hb
    (by show e.val / 128 = (y 2).val / 128; omega) (by show j.val % 64 = (y 1).val; omega) (by show e.val % 128 = (y 2).val % 128; omega)

include H in
/-- The backward output array after the launch is the reference's second result. -/
theorem final11 : (dats m 0 c).arrAt 11 (cfgs 0).N = out_main_v103 (loopAt m' c 68) := by
  refine (dats m 0 c).arrAt_eq_of_covers 11 _ (by decide +kernel) fun t hf y => ?_
  have ht : t.val < 272 := lt_of_lt_of_eq t.isLt Gen.N_0
  have h4 := flush11 t hf
  blk_simp
  rw [after0_11]
  have y0 : (y 0).val < 2 := (y 0).isLt
  have y1 : (y 1).val < 64 := (y 1).isLt
  have y2 : (y 2).val < 1024 := (y 2).isLt
  obtain ⟨j, hj⟩ : ∃ j : Fin 4096, (j : ℕ) = (67 - t.val % 68) * 64 + (y 1).val := ⟨⟨(67 - t.val % 68) * 64 + (y 1).val, by omega⟩, rfl⟩
  obtain ⟨b, hb⟩ : ∃ b : Fin 8, (b : ℕ) = t.val / 68 * 2 + (y 0).val := ⟨⟨t.val / 68 * 2 + (y 0).val, by omega⟩, rfl⟩
  obtain ⟨e, he⟩ : ∃ e : Fin 1024, (e : ℕ) = (y 2).val := ⟨⟨(y 2).val, y2⟩, rfl⟩
  have hemb : (win0_11.blk t).view.emb y = ix3 b j e := by
    blk_ext [idx11 t]
  refine Eq.trans ?_ ((congrArg (out_main_v103 (loopAt m' c 68)) hemb).trans (Cert.ReferenceIdeal.Rec.out_b m' c b j e)).symm
  exact rowB m c m' H t ht y ⟨67 - j.val / 64, by omega⟩ (by show 67 - j.val / 64 = t.val % 68; omega) b _ _ _ hb
    (by show e.val / 128 = (y 2).val / 128; omega) (by show j.val % 64 = (y 1).val; omega) (by show e.val % 128 = (y 2).val % 128; omega)

end Cert.KernelIdeal.Rec
-- ==== Proof.Scan.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.ScanFinal
public import Idealize.ShloMosaic.Lib.Quiescent

@[expose] public section

noncomputable section

namespace Cert.Proof

open Idealize.ShloMosaic Idealize.ShloMosaic.TcCoe Idealize.SL.Sem

/-- The scan's reference runs, leaves its arguments unchanged and every counter at zero. -/
theorem scan_reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)

/-- The scan's launch and its reference compute the same two arrays over the extended reals. -/
theorem scan_value : Cert.algebraic_KernelIdeal_ReferenceIdeal (hKernelIdeal := Cert.KernelIdeal.Gen.facts)
    (hReferenceIdeal := Cert.ReferenceIdeal.Gen.facts) := by
  intro m g m' g' _ hag
  have H : ∀ c, Cert.KernelIdeal.Rec.Same m c m' := fun c => ⟨(hag c).1, (hag c).2.1, (hag c).2.2.1, (hag c).2.2.2.1, (hag c).2.2.2.2⟩
  refine ⟨fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run _ _ _).mono (fun r h c => ?_) (Cert.ReferenceIdeal.Value.run m' g')
  exact ⟨(h c).1.trans (Cert.KernelIdeal.Rec.final10 m c m' (H c)).symm, (h c).2.1.trans (Cert.KernelIdeal.Rec.final11 m c m' (H c)).symm, (h c).2.2⟩

end Cert.Proof

end
-- ==== Proof.ProjFrame.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.WholeRead
public import Idealize.ShloMosaic.Lib.Claim

@[expose] public section

set_option maxRecDepth 16384

noncomputable section

/- The in-projection's frame. The projection of the 32 gate columns is stored at the first of a block of rows' four
   points and written back at the fourth, and the modulated rows are carried in the scratch between them: what both
   hold at a point is a function of the block's first point, named here, so the proof data is stated outright. -/
namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A store of the whole of a buffer leaves what was stored. -/
theorem store_whole {sp : Space} {S : Shape} {e : EltTy} (v : View sig .tc sp S e) (f : v.ty.Contents (Elt F)) {off : Fin S.rank → Nat}
    (inb : ∀ a, off a + S.size a ≤ S.size a) (w : S.Idx → Elt F e) (h : ∀ a, off a = 0) :
    v.read (Elt F) (v.writes (Elt F) f [⟨Rect.unit off (no_index S.size) inb, w⟩]) = w := by
  obtain rfl := View.eq_zero_of_forall h
  funext y
  have hy : (Rect.whole S).emb y = y := Rect.emb_whole_apply _ y
  exact (congrArg (v.read (Elt F) (v.writes (Elt F) f [⟨Rect.whole S, w⟩])) hy.symm).trans (View.read_writes_cons_emb ..)

/-- The condition of the body's branch. -/
abbrev first (i : grid0.Coords) : Prop := k0_cond1 i = 1#1

/-- It holds at every fourth point. -/
theorem first_iff : ∀ t : Fin cfg0.N, first (grid0.coords t) ↔ t.val % 4 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [first, k0_cond1, e0, e1, e2]
    word_cmp
   : ∀ t : Fin grid0.N, first (grid0.coords t) ↔ t.val % 4 = 0)

/-- Window 0's staging memref at a point. -/
abbrev mS0 (t : Fin cfg0.N) : Memref sig .tc .vmem S1x1024x1024 .f32 := win0_0.stage (cfg0.slots t 0)
/-- Window 1's staging memref at a point. -/
abbrev mS1 (t : Fin cfg0.N) : Memref sig .tc .vmem S1x1x1024 .f32 := win0_1.stage (cfg0.slots t 1)
/-- Window 2's staging memref at a point. -/
abbrev mS2 (t : Fin cfg0.N) : Memref sig .tc .vmem S1x1x1024 .f32 := win0_2.stage (cfg0.slots t 2)
/-- Window 3's staging memref at a point. -/
abbrev mS3 (t : Fin cfg0.N) : Memref sig .tc .vmem S1024x1664 .bf16 := win0_3.stage (cfg0.slots t 3)
/-- Window 4's staging memref at a point. -/
abbrev mS4 (t : Fin cfg0.N) : Memref sig .tc .vmem S1024x128 .bf16 := win0_4.stage (cfg0.slots t 4)
/-- Window 5's staging memref at a point. -/
abbrev mS5 (t : Fin cfg0.N) : Memref sig .tc .vmem S1x1024x1664 .bf16 := win0_5.stage (cfg0.slots t 5)
/-- Window 6's staging memref at a point. -/
abbrev mS6 (t : Fin cfg0.N) : Memref sig .tc .vmem S1x1024x128 .f32 := win0_6.stage (cfg0.slots t 6)
/-- The scratch. -/
abbrev sc0 : Memref sig .tc .vmem S1024x1024 .bf16 := Memref.whole cc0_scratch0

/-- The class's invariant with the scratch as a memref. -/
theorem inv_eq (c : Dev nD) :
    (Pipeline.ΦA spec0 c : sProp (MT nD τ sig Unit (Elt F) ℕ (UR sig nD τ) ℕ))
      = iprop(iprop((∃ d, owns (c : Thread nD τ) sc0 fullShare d)) ∗ (∃ r, prngReg c r)) := by
  unfold Pipeline.ΦA; rw [scopedRest0_eq]; simp only [sc0, owns_whole]; try rfl

set_option maxHeartbeats 4000000 in
/-- Away from a block's first point the body stores the projection of the carried rows and leaves the rest. -/
theorem runB (c : Dev nD) (i : grid0.Coords) (a3 : Memref sig .tc .vmem S1x1024x1024 .f32) (ha3 : a3.IsWhole) (a4 : Memref sig .tc .vmem S1x1x1024 .f32) (ha4 : a4.IsWhole) (a5 : Memref sig .tc .vmem S1x1x1024 .f32) (ha5 : a5.IsWhole) (a6 : Memref sig .tc .vmem S1024x1664 .bf16) (ha6 : a6.IsWhole) (a7 : Memref sig .tc .vmem S1024x128 .bf16) (ha7 : a7.IsWhole) (a8 : Memref sig .tc .vmem S1x1024x1664 .bf16) (ha8 : a8.IsWhole) (a9 : Memref sig .tc .vmem S1x1024x128 .f32) (ha9 : a9.IsWhole) (a10 : Memref sig .tc .vmem S1024x1024 .bf16) (ha10 : a10.IsWhole) (hc : ¬first i)
    (x0 : Vec F S1x1024x1024 .f32) (x1 : Vec F S1x1x1024 .f32) (x2 : Vec F S1x1x1024 .f32) (x3 : Vec F S1024x1664 .bf16) (x4 : Vec F S1024x128 .bf16) (x6 : Vec F S1x1024x128 .f32) (xs : Vec F S1024x1024 .bf16) (E : Set ℕ) (K : PUnit → sProp (MT nD τ sig Unit (Elt F) ℕ (UR sig nD τ) ℕ)) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare x6 ∗ owns (c : Thread nD τ) a10 fullShare xs
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (k0_pay2 xs x3) ∗ owns (c : Thread nD τ) a9 fullShare x6 ∗ owns (c : Thread nD τ) a10 fullShare xs) -∗ K ⟨⟩))
      ⊢ wp frame (wpE (defs₀ (F := F)) Variants.none c none) E (cc0__inproj_kernel i a3 ha3 a4 ha4 a5 ha5 a6 ha6 a7 ha7 a8 ha8 a9 ha9 a10 ha10) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := ha3.eq_unread hf0; obtain rfl := ha4.eq_unread hf1; obtain rfl := ha5.eq_unread hf2; obtain rfl := ha6.eq_unread hf3; obtain rfl := ha7.eq_unread hf4; obtain rfl := ha9.eq_unread hf6; obtain rfl := ha10.eq_unread hfs
  sl_exec (disch := first | sl_exact hc)
  sl_step
  iapply Hk
  isplitl [H0]
  · iexists _; isplitr; · ipureintro; exact ha3.read_unread _
    iexact H0
  isplitl [H1]
  · iexists _; isplitr; · ipureintro; exact ha4.read_unread _
    iexact H1
  isplitl [H2]
  · iexists _; isplitr; · ipureintro; exact ha5.read_unread _
    iexact H2
  isplitl [H3]
  · iexists _; isplitr; · ipureintro; exact ha6.read_unread _
    iexact H3
  isplitl [H4]
  · iexists _; isplitr; · ipureintro; exact ha7.read_unread _
    iexact H4
  isplitl [H5]
  · iexists _; isplitr; swap; · iexact H5
    ipureintro
    simp (disch := decide) only [store_whole, View.ld_unit_lit', View.readAt_eq_ld, Memref.IsWhole.read_unread]
  isplitl [H6]
  · iexists _; isplitr; swap; · iexact H6
    ipureintro
    exact ha9.read_unread _
  iexists _; isplitr; swap; · iexact HS
  ipureintro
  exact ha10.read_unread _

set_option maxHeartbeats 4000000 in
/-- At a block's first point the body modulates the rows into the scratch, and stores their two projections. -/
theorem runA (c : Dev nD) (i : grid0.Coords) (a3 : Memref sig .tc .vmem S1x1024x1024 .f32) (ha3 : a3.IsWhole) (a4 : Memref sig .tc .vmem S1x1x1024 .f32) (ha4 : a4.IsWhole) (a5 : Memref sig .tc .vmem S1x1x1024 .f32) (ha5 : a5.IsWhole) (a6 : Memref sig .tc .vmem S1024x1664 .bf16) (ha6 : a6.IsWhole) (a7 : Memref sig .tc .vmem S1024x128 .bf16) (ha7 : a7.IsWhole) (a8 : Memref sig .tc .vmem S1x1024x1664 .bf16) (ha8 : a8.IsWhole) (a9 : Memref sig .tc .vmem S1x1024x128 .f32) (ha9 : a9.IsWhole) (a10 : Memref sig .tc .vmem S1024x1024 .bf16) (ha10 : a10.IsWhole) (hc : first i)
    (x0 : Vec F S1x1024x1024 .f32) (x1 : Vec F S1x1x1024 .f32) (x2 : Vec F S1x1x1024 .f32) (x3 : Vec F S1024x1664 .bf16) (x4 : Vec F S1024x128 .bf16) (E : Set ℕ) (K : PUnit → sProp (MT nD τ sig Unit (Elt F) ℕ (UR sig nD τ) ℕ)) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ (∃ d, owns (c : Thread nD τ) a9 fullShare d) ∗ (∃ d, owns (c : Thread nD τ) a10 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (k0_pay2 (k0_pay4 x0 x2 x1) x3) ∗ owns (c : Thread nD τ) a9 fullShare (k0_pay1 (k0_pay5 x0 x2 x1 x4)) ∗ owns (c : Thread nD τ) a10 fullShare (k0_pay4 x0 x2 x1)) -∗ K ⟨⟩))
      ⊢ wp frame (wpE (defs₀ (F := F)) Variants.none c none) E (cc0__inproj_kernel i a3 ha3 a4 ha4 a5 ha5 a6 ha6 a7 ha7 a8 ha8 a9 ha9 a10 ha10) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := ha3.eq_unread hf0; obtain rfl := ha4.eq_unread hf1; obtain rfl := ha5.eq_unread hf2; obtain rfl := ha6.eq_unread hf3; obtain rfl := ha7.eq_unread hf4
  sl_exec (disch := first | sl_exact hc)
  sl_step
  iapply Hk
  isplitl [H0]
  · iexists _; isplitr; · ipureintro; exact ha3.read_unread _
    iexact H0
  isplitl [H1]
  · iexists _; isplitr; · ipureintro; exact ha4.read_unread _
    iexact H1
  isplitl [H2]
  · iexists _; isplitr; · ipureintro; exact ha5.read_unread _
    iexact H2
  isplitl [H3]
  · iexists _; isplitr; · ipureintro; exact ha6.read_unread _
    iexact H3
  isplitl [H4]
  · iexists _; isplitr; · ipureintro; exact ha7.read_unread _
    iexact H4
  isplitl [H5]
  · iexists _; isplitr; swap; · iexact H5
    ipureintro
    frame_open; simp (disch := decide) only [store_whole, View.ld_unit_lit', View.readCov_unit_lit', View.readCov_cons_unit_lit', View.readAt_eq_ld, Memref.IsWhole.read_unread]
  isplitl [H6]
  · iexists _; isplitr; swap; · iexact H6
    ipureintro
    frame_open; simp (disch := decide) only [store_whole, View.ld_unit_lit', View.readCov_unit_lit', View.readCov_cons_unit_lit', View.readAt_eq_ld, Memref.IsWhole.read_unread]
  iexists _; isplitr; swap; · iexact HS
  ipureintro
  frame_open; simp (disch := decide) only [store_whole, View.ld_unit_lit', View.readCov_unit_lit', View.readCov_cons_unit_lit', View.readAt_eq_ld, Memref.IsWhole.read_unread]

/-! ## What each point holds -/

/-- The first point of a point's block of rows. -/
abbrev base (t : Fin cfg0.N) : Fin cfg0.N := ⟨t.val - t.val % 4, Nat.lt_of_le_of_lt (Nat.sub_le _ _) t.isLt⟩

/-- The modulated rows of a point's block. -/
def hAt (c : Dev nD) (t : Fin cfg0.N) : Vec F S1024x1024 .bf16 :=
  k0_pay4 (iblk m c 0 (base t)) (iblk m c 2 (base t)) (iblk m c 1 (base t))

/-- The gate columns' projection of a point's block. -/
def abAt (c : Dev nD) (t : Fin cfg0.N) : Vec F S1x1024x128 .f32 :=
  k0_pay1 (k0_pay5 (iblk m c 0 (base t)) (iblk m c 2 (base t)) (iblk m c 1 (base t)) (iblk m c 4 (base t)))

theorem base_first (t : Fin cfg0.N) (h : t.val % 4 = 0) : base t = t := Fin.ext (by show t.val - t.val % 4 = t.val; omega)

/-- Points of one block of rows have one first point. -/
theorem base_prev (t : Fin cfg0.N) (h : ¬t.val % 4 = 0) (h' : t.val - 1 < cfg0.N) : base ⟨t.val - 1, h'⟩ = base t :=
  Fin.ext (by show (t.val - 1) - (t.val - 1) % 4 = t.val - t.val % 4; omega)

theorem hAt_prev (c : Dev nD) (t : Fin cfg0.N) (h : ¬t.val % 4 = 0) (h' : t.val - 1 < cfg0.N) : hAt m c ⟨t.val - 1, h'⟩ = hAt m c t := by
  unfold hAt; rw [base_prev t h h']

theorem abAt_prev (c : Dev nD) (t : Fin cfg0.N) (h : ¬t.val % 4 = 0) (h' : t.val - 1 < cfg0.N) : abAt m c ⟨t.val - 1, h'⟩ = abAt m c t := by
  unfold abAt; rw [base_prev t h h']

/-- The invariant: nothing named before the first point, then the scratch at the modulated rows of the block of the
    point before. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) sc0 fullShare (hAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) sc0 fullShare (hAt m c ⟨n - 1, by omega⟩) ∗ (∃ r, prngReg c r)) := by
  cases n with
  | zero => exact absurd rfl hz
  | succ n => rfl

/-- The proof data: the inputs at their blocks, the two outputs at the projections of the block's modulated rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hAt m c t) (iblk m c 3 t)
    | ⟨6, _⟩ => abAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay2 (hAt m c t) (iblk m c 3 t) := by dsimp only [dats]
theorem after0_6 (c : Dev nD) (t : Fin cfg0.N) : (dats m 0 c).after 6 t = abAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The gate columns' window is idle exactly away from a block's first point. -/
theorem idle6 (t : Fin cfg0.N) : cfg0.idle 6 (cfg0.grid.coords t) = true ↔ ¬t.val % 4 = 0 := by
  rw [← first_iff t]
  show (!(k0_cond1 (grid0.coords t) == 1#1)) = true ↔ ¬(k0_cond1 (grid0.coords t) = 1#1)
  simp

theorem flush6_false (t : Fin cfg0.N) (h : ¬t.val % 4 = 3) : (cfg0.win 6).flush t = false :=
  Bool.eq_false_iff.mpr fun hf => h ((flush0_6 t).mp hf)

/-- The gate columns' blocks lie whole in their array. -/
theorem clip6 : ∀ (t : Fin cfg0.N) (a : Fin 3), (cfg0.win 6).clip (cfg0.grid.coords t) a = none :=
  (by decide +kernel : ∀ (t : Fin grid0.N) (a : Fin 3), win0_6.clip (grid0.coords t) a = none)

/-- Between a block's first point and its write-back the gate columns' buffer keeps the first point's projection. -/
theorem before0_6 (c : Dev nD) (n : ℕ) : ∀ (t : Fin cfg0.N), t.val = n → ¬t.val % 4 = 0 → ∀ d, (dats m 0 c).before 6 t d = abAt m c t := by
  induction n with
  | zero => intro t ht h; exact absurd (by rw [ht]) h
  | succ n ih =>
    intro t ht h d
    have hp : t.val - 1 < cfg0.N := Nat.lt_of_le_of_lt (Nat.sub_le _ _) t.isLt
    rw [(dats m 0 c).before_of_pos 6 t (by omega) ((cfg0.win 6).fetch_out rfl t) d,
      flush6_false ⟨t.val - 1, hp⟩ (by show ¬(t.val - 1) % 4 = 3; omega), if_neg Bool.false_ne_true]
    by_cases h0 : (t.val - 1) % 4 = 0
    · have hi : cfg0.idle 6 (cfg0.grid.coords ⟨t.val - 1, hp⟩) = false :=
        Bool.eq_false_iff.mpr fun hi => (idle6 ⟨t.val - 1, hp⟩).mp hi h0
      unfold Dat.left; rw [hi]
      show (dats m 0 c).kept 6 ⟨t.val - 1, hp⟩ d = _
      unfold Dat.kept
      rw [Pipeline.fill_of_clip_none 6 _ (clip6 _) d ((dats m 0 c).after 6 ⟨t.val - 1, hp⟩), Window.fill_cut, after0_6,
        abAt_prev m c t h hp]
    · have hi : cfg0.idle 6 (cfg0.grid.coords ⟨t.val - 1, hp⟩) = true := (idle6 ⟨t.val - 1, hp⟩).mpr h0
      unfold Dat.left; rw [hi]
      show (dats m 0 c).before 6 ⟨t.val - 1, hp⟩ d = _
      rw [ih ⟨t.val - 1, hp⟩ (by show t.val - 1 = n; omega) h0 d, abAt_prev m c t h hp]

/-- What the gate columns' window is left at, away from a block's first point. -/
theorem leaves6 (c : Dev nD) (t : Fin cfg0.N) (h : ¬t.val % 4 = 0) :
    owns (c : Thread nD τ) (mS6 t) fullShare (abAt m c t) ⊢ (dats m 0 c).leavesExact 6 t := by
  have hi := (idle6 t).mpr h
  by_cases hf : t.val % 4 = 3
  · rw [show (dats m 0 c).leavesExact 6 t = owns (c : Thread nD τ) (mS6 t) fullShare ((dats m 0 c).after 6 t) from by
      unfold Dat.leavesExact; rw [hi, (flush0_6 t).mpr hf], after0_6]
  · rw [(dats m 0 c).leavesExact_idle 6 t hi (flush6_false t hf)]
    iintro H; iexists default
    rw [before0_6 m c t.val t rfl h]
    iexact H

/-- At a block's first point the window is live. -/
theorem leaves6_first (c : Dev nD) (t : Fin cfg0.N) (h : t.val % 4 = 0) :
    (dats m 0 c).leavesExact 6 t = owns (c : Thread nD τ) (mS6 t) fullShare (abAt m c t) := by
  have hi : cfg0.idle 6 (cfg0.grid.coords t) = false := Bool.eq_false_iff.mpr fun hi => (idle6 t).mp hi h
  rw [← after0_6 m c t]
  unfold Dat.leavesExact; rw [hi]

/-! ## The body obligation -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (mS0 t) fullShare ((dats m 0 c).before 0 t d))
    ∗ (∃ d, owns (c : Thread nD τ) (mS1 t) fullShare ((dats m 0 c).before 1 t d))
    ∗ (∃ d, owns (c : Thread nD τ) (mS2 t) fullShare ((dats m 0 c).before 2 t d))
    ∗ (∃ d, owns (c : Thread nD τ) (mS3 t) fullShare ((dats m 0 c).before 3 t d))
    ∗ (∃ d, owns (c : Thread nD τ) (mS4 t) fullShare ((dats m 0 c).before 4 t d))
    ∗ (∃ d, owns (c : Thread nD τ) (mS5 t) fullShare ((dats m 0 c).before 5 t d))
    ∗ (∃ d, owns (c : Thread nD τ) (mS6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (mS0 t) fullShare ((dats m 0 c).after 0 t)
    ∗ owns (c : Thread nD τ) (mS1 t) fullShare ((dats m 0 c).after 1 t)
    ∗ owns (c : Thread nD τ) (mS2 t) fullShare ((dats m 0 c).after 2 t)
    ∗ owns (c : Thread nD τ) (mS3 t) fullShare ((dats m 0 c).after 3 t)
    ∗ owns (c : Thread nD τ) (mS4 t) fullShare ((dats m 0 c).after 4 t)
    ∗ owns (c : Thread nD τ) (mS5 t) fullShare ((dats m 0 c).after 5 t)
    ∗ (dats m 0 c).leavesExact 6 t)

/-- The invariant before a point gives the scratch at anything. -/
theorem Phi_any (c : Dev nD) (n : ℕ) (h : n ≤ cfg0.N) :
    PhiS m c n h ⊢ iprop((∃ d, owns (c : Thread nD τ) sc0 fullShare d) ∗ (∃ r, prngReg c r)) := by
  by_cases hz : n = 0
  · rw [PhiS_zero m c n h hz, inv_eq]
  · rw [PhiS_pos m c n h hz]
    iintro ⟨HS, Hg⟩
    isplitl [HS]; · iexists _; iexact HS
    iexact Hg

set_option maxHeartbeats 4000000 in
/-- The body at any point: a block's first, or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = iprop(owns (c : Thread nD τ) sc0 fullShare (hAt m c t) ∗ (∃ r, prngReg c r)) from rfl,
    show (dats m 0 c).Φ t.castSucc = PhiS m c t.val (Nat.le_of_lt t.isLt) from rfl]
  by_cases h0 : t.val % 4 = 0
  · rw [leaves6_first m c t h0]
    have eh : hAt m c t = k0_pay4 (iblk m c 0 t) (iblk m c 2 t) (iblk m c 1 t) := by unfold hAt; rw [base_first t h0]
    have ea : abAt m c t = k0_pay1 (k0_pay5 (iblk m c 0 t) (iblk m c 2 t) (iblk m c 1 t) (iblk m c 4 t)) := by
      unfold abAt; rw [base_first t h0]
    rw [eh, ea]
    refine (sep_mono_left (Phi_any m c _ _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    rw [PhiS_pos m c _ _ hz, hAt_prev m c t h0]
    simp only [before0_6 m c t.val t rfl h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ (fun h => h0 ((first_iff t).mp h)) (iblk m c 0 t) (iblk m c 1 t) (iblk m c 2 t) (iblk m c 3 t) (iblk m c 4 t) (abAt m c t) (hAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [inv_eq]; exact Phi_any m c cfg0.N (Nat.le_refl _)

/-! ## The run and the frame -/

set_option backward.isDefEq.respectTransparency.types false in
/-- Every execution terminates with the pipeline's arrays at what the proof data computes and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Proj

end
-- ==== Proof.ProjIdx.lean ====
module

public import proofs.«01_k».proof.Proof.Gen.Kernel2Ideal.Frame
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

namespace Cert.Kernel2Ideal.Proj

open Idealize.ShloMosaic Idealize.ShloMosaic.TcCoe Idealize.SL.Sem Idealize.ShloMosaic.Tactic
open Idealize.ShloMosaic.StableHlo
open Cert.Kernel2Ideal Cert.Kernel2Ideal.Gen

variable (m : (ℓ : Loc nD τ sig) → Buf (Elt Ideal) ℓ) (c : Dev nD)

/-- The tokens the program takes. -/
abbrev aX : FVec Ideal S8x4096x1024 .f32 := m ((c.tc : Thread nD τ).loc main_arg0)
/-- The shift the program takes. -/
abbrev aSh : FVec Ideal S8x1x1024 .f32 := m ((c.tc : Thread nD τ).loc main_arg1)
/-- The scale the program takes. -/
abbrev aSc : FVec Ideal S8x1x1024 .f32 := m ((c.tc : Thread nD τ).loc main_arg2)
/-- The weights the program takes. -/
abbrev aW : FVec Ideal S1024x6688 .f32 := m ((c.tc : Thread nD τ).loc main_arg3)

theorem idx0 : ∀ t : Fin cfg0.N, win0_0.index t = ![t.val / 16, t.val / 4 % 4, 0] :=
  (by decide +kernel : ∀ t : Fin grid0.N, win0_0.index t = ![t.val / 16, t.val / 4 % 4, 0])
/-- The tokens' block, read at an entry. -/
theorem blk0 (t : Fin cfg0.N) (b : Fin 8) (j : Fin 4096) (r : Fin 1024) (hb : (b : ℕ) = t.val / 16) (hj : (j : ℕ) = t.val / 4 % 4 * 1024 + r) (e : Fin 1024) :
    iblk m c 0 t (ix3 0 r e) = aX m c (ix3 b j e) := by
  refine Eq.trans ?_ (congrFun (V_main_arg0 m c) (ix3 b j e))
  blk_point [iblk, idx0 t]

theorem idx1 : ∀ t : Fin cfg0.N, win0_1.index t = ![t.val / 16, 0, 0] :=
  (by decide +kernel : ∀ t : Fin grid0.N, win0_1.index t = ![t.val / 16, 0, 0])
/-- The shift's block, read at an entry. -/
theorem blk1 (t : Fin cfg0.N) (b : Fin 8) (hb : (b : ℕ) = t.val / 16) (e : Fin 1024) :
    iblk m c 1 t (ix3 0 0 e) = aSh m c (ix3 b 0 e) := by
  refine Eq.trans ?_ (congrFun (V_main_arg1 m c) (ix3 b 0 e))
  blk_point [iblk, idx1 t]

theorem idx2 : ∀ t : Fin cfg0.N, win0_2.index t = ![t.val / 16, 0, 0] :=
  (by decide +kernel : ∀ t : Fin grid0.N, win0_2.index t = ![t.val / 16, 0, 0])
/-- The scale's block, read at an entry. -/
theorem blk2 (t : Fin cfg0.N) (b : Fin 8) (hb : (b : ℕ) = t.val / 16) (e : Fin 1024) :
    iblk m c 2 t (ix3 0 0 e) = aSc m c (ix3 b 0 e) := by
  refine Eq.trans ?_ (congrFun (V_main_arg2 m c) (ix3 b 0 e))
  blk_point [iblk, idx2 t]

/-- Where a column of the kept projection lies in the weights. -/
def col (e : Fin 6656) : Fin 6688 :=
  if h : (e : ℕ) < 4096 then ⟨32 + e, by omega⟩ else if h : (e : ℕ) < 6144 then ⟨e + 544, by omega⟩ else ⟨e - 2016, by omega⟩

theorem col_lo (e : Fin 6656) (h : (e : ℕ) < 4096) : (col e : ℕ) = 32 + e := by
  unfold col
  simp only [dif_pos h]
theorem col_mid (e : Fin 6656) (h : ¬ (e : ℕ) < 4096) (h' : (e : ℕ) < 6144) : (col e : ℕ) = e + 544 := by
  unfold col
  simp only [dif_neg h, dif_pos h']
theorem col_hi (e : Fin 6656) (h : ¬ (e : ℕ) < 4096) (h' : ¬ (e : ℕ) < 6144) : (col e : ℕ) = e - 2016 := by
  unfold col
  simp only [dif_neg h, dif_neg h']

/-- The kept projection's weights at an entry. -/
theorem V3 (i : Fin 1024) (e : Fin 6656) : V m c main_v4 (ix2 i e) = aW m c (ix2 i (col e)) := by
  unfold V hostOps0 hostOps0_1 hostOps0_2
  simp only [List.flatten_cons, List.flatten_nil, List.append_nil, List.cons_append, List.nil_append]
  after_reads_at
  after_reads_at
  by_cases h1 : (e : ℕ) < 4096
  · simp only [dif_pos h1]
    exact congrArg (aW m c) ((ix2_inj ..).2 ⟨rfl, Fin.ext (col_lo e h1).symm⟩)
  · by_cases h2 : (e : ℕ) < 6144
    · simp only [dif_neg h1, dif_pos (show (e : ℕ) - 4096 < 2048 by omega)]
      exact congrArg (aW m c) ((ix2_inj ..).2 ⟨rfl, Fin.ext (Eq.trans (by show 4640 + ((e : ℕ) - 4096) = e + 544; omega) (col_mid e h1 h2).symm)⟩)
    · simp only [dif_neg h1, dif_neg (show ¬ (e : ℕ) - 4096 < 2048 by omega)]
      exact congrArg (aW m c) ((ix2_inj ..).2 ⟨rfl, Fin.ext (Eq.trans (by show 4128 + ((e : ℕ) - 4096 - 2048) = e - 2016; omega) (col_hi e h1 h2).symm)⟩)

/-- The gate columns of the weights at the launch's entry, -/
theorem V4a (i : Fin 1024) (e : Fin 32) : V m c main_v7 (ix2 i ⟨e, by omega⟩) = aW m c (ix2 i ⟨e, by omega⟩) := by
  unfold V hostOps0 hostOps0_1 hostOps0_2
  simp only [List.flatten_cons, List.flatten_nil, List.append_nil, List.cons_append, List.nil_append]
  after_reads_at

/-- and their padding. -/
theorem V4b (i : Fin 1024) (e : Fin 96) : V m c main_v7 (ix2 i ⟨32 + e, by omega⟩) = (0 : EReal) := by
  unfold V hostOps0 hostOps0_1 hostOps0_2
  simp only [List.flatten_cons, List.flatten_nil, List.append_nil, List.cons_append, List.nil_append]
  after_reads_at
  exact sitofp_zero (φ := .f32)

theorem idx3 : ∀ t : Fin cfg0.N, win0_3.index t = ![0, t.val % 4] :=
  (by decide +kernel : ∀ t : Fin grid0.N, win0_3.index t = ![0, t.val % 4])
/-- The weights' block, read at an entry. -/
theorem blk3 (t : Fin cfg0.N) (i : Fin 1024) (e : Fin 1664) (k : Fin 6656) (hk : (k : ℕ) = t.val % 4 * 1664 + e) :
    iblk m c 3 t (ix2 i e) = V m c main_v4 (ix2 i k) := by
  blk_point [iblk, idx3 t]

theorem idx4 : ∀ t : Fin cfg0.N, win0_4.index t = ![0, 0] :=
  (by decide +kernel : ∀ t : Fin grid0.N, win0_4.index t = ![0, 0])
/-- The gate columns' block, read at an entry. -/
theorem blk4 (t : Fin cfg0.N) (i : Fin 1024) (e : Fin 128) : iblk m c 4 t (ix2 i e) = V m c main_v7 (ix2 i e) := by
  blk_point [iblk, idx4 t]

end Cert.Kernel2Ideal.Proj

end
-- ==== Proof.MergeRow.lean ====
module

public import Idealize.ShloMosaic.Lib.Pointwise

@[expose] public section

noncomputable section

namespace Cert.MergeRow

open Idealize.ShloMosaic

/-- The stabiliser of both normalisations. -/
abbrev eps : EReal := Ideal.ofBits FTy.f32 0x358637BD#32
/-- The width of a head. -/
abbrev c128 : EReal := Ideal.ofBits FTy.f32 0x43000000#32
/-- The width of the model. -/
abbrev c1024 : EReal := Ideal.ofBits FTy.f32 0x44800000#32
/-- The weight of the residual stream. -/
abbrev alpha : EReal := Ideal.ofBits FTy.f32 0x3F9837F0#32

/-- One entry of a token's gated head: the head's row over its root mean square, scaled, times the gate's SiLU. -/
def head (o z : Fin 1024 → EReal) (nw : Fin 128 → EReal) (h : Fin 8) (d : Fin 128) : EReal :=
  o ⟨h * 128 + d, by omega⟩
      * Ideal.rsqrt (Ideal.div (∑ k : Fin 128, o ⟨h * 128 + k, by omega⟩ * o ⟨h * 128 + k, by omega⟩) c128 + eps)
      * nw d * (z ⟨h * 128 + d, by omega⟩ * Ideal.logistic (z ⟨h * 128 + d, by omega⟩))

/-- One entry of a token's gated heads, by its column. -/
def heads (o z : Fin 1024 → EReal) (nw : Fin 128 → EReal) (i : Fin 1024) : EReal :=
  head o z nw ⟨i / 128, by omega⟩ ⟨i % 128, by omega⟩

/-- A column of the gated heads is the entry of the head it lies in. -/
theorem heads_eq (o z : Fin 1024 → EReal) (nw : Fin 128 → EReal) (i : Fin 1024) (h : Fin 8) (d : Fin 128)
    (hi : (i : ℕ) = h * 128 + d) : heads o z nw i = head o z nw h d :=
  congrArg₂ (head o z nw) (Fin.ext (by show (i : ℕ) / 128 = h; omega)) (Fin.ext (by show (i : ℕ) % 128 = d; omega))

/-- One entry of a token's row times a matrix. -/
def rowMul {n : ℕ} (r : Fin n → EReal) (w : Fin n → Fin 1024 → EReal) (e : Fin 1024) : EReal := ∑ i : Fin n, r i * w i e

/-- One entry of a token's residual sum: the two branches weighed by their gates, projected, modulated and added. -/
def resid (dn four g0 g1 x md : Fin 1024 → EReal) (wout : Fin 1024 → Fin 1024 → EReal) (e : Fin 1024) : EReal :=
  alpha * x e + md e * rowMul (fun k => Ideal.logistic (g0 k) * four k + Ideal.logistic (g1 k) * dn k) wout e

/-- The mean of a token's row. -/
def mean (r : Fin 1024 → EReal) : EReal := Ideal.div (∑ k : Fin 1024, r k) c1024

/-- A token's row less its mean. -/
def cent (r : Fin 1024 → EReal) (e : Fin 1024) : EReal := r e - mean r

/-- The factor a centred row is normalised by. -/
def scale (r : Fin 1024 → EReal) : EReal := Ideal.rsqrt (Ideal.div (∑ k : Fin 1024, r k * r k) c1024 + eps)

/-- A token's layer-normalised row with gain and bias. -/
def postn (r g b : Fin 1024 → EReal) (e : Fin 1024) : EReal := cent r e * scale (cent r) * g e + b e

/-- A token's layer-normalised and modulated row. -/
def modul (r sc sh : Fin 1024 → EReal) (e : Fin 1024) : EReal := cent r e * scale (cent r) * (1 + sc e) + sh e

end Cert.MergeRow
-- ==== Proof.ProjRow.lean ====
module

public import proofs.«01_k».proof.Proof.MergeRow
public import proofs.«01_k».proof.Proof.Gen.Kernel2Ideal.Skeleton
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Proj

open Idealize.ShloMosaic Idealize.ShloMosaic.TcCoe Idealize.SL.Sem Idealize.ShloMosaic.Tactic
open Cert.Kernel2Ideal Cert.Kernel2Ideal.Gen
open Cert.MergeRow

/-- The modulated rows at an entry: the layer norm of the row, scaled and shifted. -/
theorem pay3_at (x : Vec Ideal S1x1024x1024 .f32) (sc sh : Vec Ideal S1x1x1024 .f32) (r e : Fin 1024) :
    k0_pay3 x sc sh (ix2 r e) = modul (fun k => x (ix3 0 r k)) (fun k => sc (ix3 0 0 k)) (fun k => sh (ix3 0 0 k)) e := by
  unfold k0_pay3 modul scale cent mean
  pointwise

/-- The rows carried in the scratch are the modulated rows. -/
theorem pay4_at (x : Vec Ideal S1x1024x1024 .f32) (sc sh : Vec Ideal S1x1x1024 .f32) (r e : Fin 1024) :
    k0_pay4 x sc sh (ix2 r e) = modul (fun k => x (ix3 0 r k)) (fun k => sc (ix3 0 0 k)) (fun k => sh (ix3 0 0 k)) e := by
  unfold k0_pay4
  pointwise [pay3_at]

/-- The projection of carried rows, at an entry. -/
theorem pay2_at (h : Vec Ideal S1024x1024 .bf16) (w : Vec Ideal S1024x1664 .bf16) (r : Fin 1024) (e : Fin 1664) :
    k0_pay2 h w (ix3 0 r e) = ∑ i : Fin 1024, h (ix2 r i) * w (ix2 i e) := by
  unfold k0_pay2
  pointwise

/-- The gate columns' projection, at an entry. -/
theorem pay1_at (x : Vec Ideal S1x1024x1024 .f32) (sc sh : Vec Ideal S1x1x1024 .f32) (w : Vec Ideal S1024x128 .bf16) (r : Fin 1024) (e : Fin 128) :
    k0_pay1 (k0_pay5 x sc sh w) (ix3 0 r e)
      = ∑ i : Fin 1024, modul (fun k => x (ix3 0 r k)) (fun k => sc (ix3 0 0 k)) (fun k => sh (ix3 0 0 k)) i * w (ix2 i e) := by
  unfold k0_pay1 k0_pay5
  pointwise [pay3_at]

end Cert.Kernel2Ideal.Proj

end
-- ==== Proof.ProjRef.lean ====
module

public import proofs.«01_k».proof.Proof.MergeRow
public import proofs.«01_k».proof.Proof.Gen.Reference2Ideal.Run
public import Idealize.ShloMosaic.Lib.Pointwise
public import Idealize.ShloMosaic.Lib.KernelVsHost

@[expose] public section

set_option maxRecDepth 16384

noncomputable section

namespace Cert.Reference2Ideal.Proj

open Idealize.ShloMosaic Idealize.ShloMosaic.TcCoe Idealize.SL.Sem Idealize.ShloMosaic.Tactic
open Cert.Reference2Ideal Cert.Reference2Ideal.Gen Cert.Reference2Ideal.Value
open Cert.MergeRow

/-! The reference's two results as functions of its four arguments, step by step, and what each step is at an entry. -/

variable (x : FVec Ideal S8x4096x1024 .f32) (sh sc : FVec Ideal S8x1x1024 .f32) (w : FVec Ideal S1024x6688 .f32)

/-- The mean of each token. -/
def xMean : FVec Ideal S8x4096x1 .f32 :=
  Host.divf (broadcastInDim S8x4096x1 ![0, 1] bcast_S8x4096_S8x4096x1_0_1 (Host.reduceAdd x (constant S_ .f32 0x00000000#32) reducesTo_S8x4096x1024_S8x4096_d2 h_S_))
    (broadcastInDim S8x4096x1 ![] bcast_S_S8x4096x1 (constant S_ .f32 0x44800000#32))

/-- Each token less its mean. -/
def xCent : FVec Ideal S8x4096x1024 .f32 :=
  subf x (broadcastInDim S8x4096x1024 ![0, 1, 2] bcast_S8x4096x1_S8x4096x1024_0_1_2 (xMean x))

/-- Each token's factor to unit variance. -/
def xRs : FVec Ideal S8x4096x1 .f32 :=
  Host.rsqrt (addf (xMean (mulf (xCent x) (xCent x))) (broadcastInDim S8x4096x1 ![] bcast_S_S8x4096x1 (constant S_ .f32 0x358637BD#32)))

/-- The modulated tokens. -/
def xMod : FVec Ideal S8x4096x1024 .f32 :=
  addf (mulf (mulf (xCent x) (broadcastInDim S8x4096x1024 ![0, 1, 2] bcast_S8x4096x1_S8x4096x1024_0_1_2 (xRs x)))
      (broadcastInDim S8x4096x1024 ![0, 1, 2] bcast_S8x1x1024_S8x4096x1024_0_1_2
        (addf (broadcastInDim S8x1x1024 ![] bcast_S_S8x1x1024 (constant S_ .f32 0x3F800000#32)) sc)))
    (broadcastInDim S8x4096x1024 ![0, 1, 2] bcast_S8x1x1024_S8x4096x1024_0_1_2 sh)

/-- The whole projection. -/
def px : FVec Ideal S8x4096x6688 .f32 :=
  Host.dotGeneral dot_S8x4096x1024_S1024x6688_S8x4096x6688_2_0_01_1_n_n none (xMod x sh sc) w

/-- The reference's first result: the columns it keeps, over the padded rows. -/
def res1 : FVec Ideal S8x4352x6656 .bf16 :=
  truncf .bf16 (pad S8x4352x6656 ![0, 0, 0] ![0, 256, 0] ![0, 0, 0]
    (concatenate S8x4096x6656 2 [⟨S8x4096x4096, extractStridedSlice S8x4096x4096 ![0, 0, 32] (px x sh sc w) slices_S8x4096x6688_S8x4096x4096_0_0_32⟩,
      ⟨S8x4096x2048, extractStridedSlice S8x4096x2048 ![0, 0, 4640] (px x sh sc w) slices_S8x4096x6688_S8x4096x2048_0_0_4640⟩,
      ⟨S8x4096x512, extractStridedSlice S8x4096x512 ![0, 0, 4128] (px x sh sc w) slices_S8x4096x6688_S8x4096x512_0_0_4128⟩]
      concatenates_S8x4096x4096_S8x4096x2048_S8x4096x512_S8x4096x6656_d2)
    (sitofp .f32 (constantI S_ 32 0#32)) pads_S8x4096x6656_S8x4352x6656_000_02560_000 h_S_) bitsLt_bf16_f32

/-- The reference's second result: the gate columns, over the padded rows and columns. -/
def res2 : FVec Ideal S8x4352x128 .f32 :=
  pad S8x4352x128 ![0, 0, 0] ![0, 256, 96] ![0, 0, 0]
    (extractStridedSlice S8x4096x32 ![0, 0, 0] (px x sh sc w) slices_S8x4096x6688_S8x4096x32_0_0_0)
    (sitofp .f32 (constantI S_ 32 0#32)) pads_S8x4096x32_S8x4352x128_000_02560_0960 h_S_

/-- What a run of the reference leaves, in those words. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = res1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = res2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2⟩) (Cert.Reference2Ideal.Value.run m ρ)

theorem xMean_at (b : Fin 8) (j : Fin 4096) : xMean x (ix3 b j 0) = mean (fun e => x (ix3 b j e)) := by
  unfold xMean mean
  pointwise

theorem xCent_at (b : Fin 8) (j : Fin 4096) (e : Fin 1024) : xCent x (ix3 b j e) = cent (fun e => x (ix3 b j e)) e := by
  unfold xCent cent
  pointwise [xMean_at]

theorem xRs_at (b : Fin 8) (j : Fin 4096) : xRs x (ix3 b j 0) = scale (cent (fun e => x (ix3 b j e))) := by
  unfold xRs scale
  pointwise [xMean_at, mean, xCent_at]

/-- The modulated tokens at an entry. -/
theorem xMod_at (b : Fin 8) (j : Fin 4096) (e : Fin 1024) :
    xMod x sh sc (ix3 b j e) = modul (fun e => x (ix3 b j e)) (fun e => sc (ix3 b 0 e)) (fun e => sh (ix3 b 0 e)) e := by
  unfold xMod modul
  pointwise [xCent_at, xRs_at]

/-- The projection at an entry. -/
theorem px_at (b : Fin 8) (j : Fin 4096) (k : Fin 6688) :
    px x sh sc w (ix3 b j k)
      = ∑ i : Fin 1024, modul (fun e => x (ix3 b j e)) (fun e => sc (ix3 b 0 e)) (fun e => sh (ix3 b 0 e)) i * w (ix2 i k) := by
  unfold px
  pointwise [xMod_at]

end Cert.Reference2Ideal.Proj
-- ==== Proof.ProjFinal.lean ====
module

public import proofs.«01_k».proof.Proof.ProjFrame
public import proofs.«01_k».proof.Proof.ProjIdx
public import proofs.«01_k».proof.Proof.ProjRow
public import proofs.«01_k».proof.Proof.ProjRef

@[expose] public section

set_option maxRecDepth 16384

noncomputable section

namespace Cert.Kernel2Ideal.Proj

open Idealize.ShloMosaic Idealize.ShloMosaic.TcCoe Idealize.SL.Sem Idealize.ShloMosaic.Tactic
open Cert.Kernel2Ideal Cert.Kernel2Ideal.Gen
open Cert.MergeRow
open Cert.Reference2Ideal.Proj (px px_at res1 res2)

variable (m : (ℓ : Loc nD τ sig) → Buf (Elt Ideal) ℓ) (c : Dev nD)

/-! ## The reference's results at a latent row -/

section Ref
variable (x : FVec Ideal S8x4096x1024 .f32) (sh sc : FVec Ideal S8x1x1024 .f32) (w : FVec Ideal S1024x6688 .f32)

/-- The first result at a latent row is the projection at the kept column. -/
theorem res1_at (b : Fin 8) (J : Fin 4352) (j : Fin 4096) (hJ : (J : ℕ) = j) (e : Fin 6656) :
    res1 x sh sc w (ix3 b J e) = px x sh sc w (ix3 b j (col e)) := by
  have hj : (j : ℕ) < 4352 := Nat.lt_trans j.isLt (by decide)
  have hJ' : J = ⟨j, hj⟩ := Fin.ext hJ
  rw [hJ']
  clear hJ hJ' J
  unfold res1
  pointwise
  by_cases h1 : (e : ℕ) < 4096
  · simp only [dif_pos h1]
    exact congrArg (px x sh sc w) ((ix3_inj ..).2 ⟨rfl, rfl, Fin.ext (col_lo e h1).symm⟩)
  · by_cases h2 : (e : ℕ) < 6144
    · simp only [dif_neg h1, dif_pos (show (e : ℕ) - 4096 < 2048 by omega)]
      exact congrArg (px x sh sc w) ((ix3_inj ..).2 ⟨rfl, rfl, Fin.ext (Eq.trans (by show 4640 + ((e : ℕ) - 4096) = e + 544; omega) (col_mid e h1 h2).symm)⟩)
    · simp only [dif_neg h1, dif_neg (show ¬ (e : ℕ) - 4096 < 2048 by omega)]
      exact congrArg (px x sh sc w) ((ix3_inj ..).2 ⟨rfl, rfl, Fin.ext (Eq.trans (by show 4128 + ((e : ℕ) - 4096 - 2048) = e - 2016; omega) (col_hi e h1 h2).symm)⟩)

/-- The second result at a latent row: a gate column of the projection, -/
theorem res2_lo (b : Fin 8) (J : Fin 4352) (j : Fin 4096) (hJ : (J : ℕ) = j) (e : Fin 128) (he : (e : ℕ) < 32) :
    res2 x sh sc w (ix3 b J e) = px x sh sc w (ix3 b j ⟨e, by omega⟩) := by
  have hj : (j : ℕ) < 4352 := Nat.lt_trans j.isLt (by decide)
  have hJ' : J = ⟨j, hj⟩ := Fin.ext hJ
  rw [hJ']
  clear hJ hJ' J
  unfold res2
  pointwise [he]

/-- or zero past them. -/
theorem res2_hi (b : Fin 8) (J : Fin 4352) (j : Fin 4096) (hJ : (J : ℕ) = j) (e : Fin 128) (he : ¬ (e : ℕ) < 32) :
    res2 x sh sc w (ix3 b J e) = (0 : EReal) := by
  have hj : (j : ℕ) < 4352 := Nat.lt_trans j.isLt (by decide)
  have hJ' : J = ⟨j, hj⟩ := Fin.ext hJ
  rw [hJ']
  clear hJ hJ' J
  unfold res2
  pointwise [he]
  exact sitofp_zero (φ := .f32)

end Ref

/-! ## What a point leaves -/

/-- The batch entry and the token a row of a point's block belongs to. -/
def bOf (t : Fin cfg0.N) : Fin 8 := ⟨t.val / 16, by have := lt_of_lt_of_eq t.isLt N_0; omega⟩
/-- The token a row of a point's block belongs to. -/
def jOf (t : Fin cfg0.N) (r : Fin 1024) : Fin 4096 := ⟨t.val / 4 % 4 * 1024 + r, by omega⟩

theorem base_val (t : Fin cfg0.N) : (base t).val = t.val - t.val % 4 := rfl

/-- A row of the carried block is the token's modulated row. -/
theorem hAt_at (t : Fin cfg0.N) (r i : Fin 1024) :
    hAt m c t (ix2 r i) = modul (fun k => aX m c (ix3 (bOf t) (jOf t r) k)) (fun k => aSc m c (ix3 (bOf t) 0 k)) (fun k => aSh m c (ix3 (bOf t) 0 k)) i := by
  have hb : ((bOf t : Fin 8) : ℕ) = (base t).val / 16 := by rw [base_val]; show t.val / 16 = _; omega
  have hj : ((jOf t r : Fin 4096) : ℕ) = (base t).val / 4 % 4 * 1024 + r := by rw [base_val]; show t.val / 4 % 4 * 1024 + r.val = _; omega
  refine (pay4_at _ _ _ r i).trans ?_
  simp only [blk0 m c (base t) _ _ r hb hj, blk1 m c (base t) _ hb, blk2 m c (base t) _ hb]

/-- What a point leaves in the first output's block. -/
theorem out5_at (t : Fin cfg0.N) (r : Fin 1024) (e : Fin 1664) (k : Fin 6656) (hk : (k : ℕ) = t.val % 4 * 1664 + e) :
    k0_pay2 (hAt m c t) (iblk m c 3 t) (ix3 0 r e) = px (aX m c) (aSh m c) (aSc m c) (aW m c) (ix3 (bOf t) (jOf t r) (col k)) := by
  refine (pay2_at _ _ r e).trans (Eq.trans ?_ (px_at _ _ _ _ _ _ _).symm)
  refine Finset.sum_congr rfl fun i _ => ?_
  rw [hAt_at]
  exact congrArg (_ * ·) ((blk3 m c t i e k hk).trans (V3 m c i k))

/-- What a point leaves in the second output's block. -/
theorem out6_at (t : Fin cfg0.N) (r : Fin 1024) (e : Fin 128) (J : Fin 4352) (hJ : (J : ℕ) = jOf t r) :
    abAt m c t (ix3 0 r e) = res2 (aX m c) (aSh m c) (aSc m c) (aW m c) (ix3 (bOf t) J e) := by
  have hb : ((bOf t : Fin 8) : ℕ) = (base t).val / 16 := by rw [base_val]; show t.val / 16 = _; omega
  have hj : ((jOf t r : Fin 4096) : ℕ) = (base t).val / 4 % 4 * 1024 + r := by rw [base_val]; show t.val / 4 % 4 * 1024 + r.val = _; omega
  refine (pay1_at _ _ _ _ r e).trans ?_
  simp only [blk0 m c (base t) _ _ r hb hj, blk1 m c (base t) _ hb, blk2 m c (base t) _ hb, blk4]
  by_cases he : (e : ℕ) < 32
  · rw [res2_lo _ _ _ _ _ J (jOf t r) hJ e he, px_at]
    have h := fun i => V4a m c i ⟨e, he⟩
    simp only [Fin.eta] at h
    simp only [h]
  · rw [res2_hi _ _ _ _ _ J (jOf t r) hJ e he]
    have h := fun i => V4b m c i ⟨e - 32, by omega⟩
    have h' : (⟨32 + ((e : ℕ) - 32), by omega⟩ : Fin 128) = e := Fin.ext (by simp only []; omega)
    refine Finset.sum_eq_zero fun i _ => ?_
    rw [← h', h, mul_zero]

/-! ## The arrays after the launch -/

theorem idx5 : ∀ t : Fin cfg0.N, win0_5.index t = ![t.val / 16, t.val / 4 % 4, t.val % 4] :=
  (by decide +kernel : ∀ t : Fin grid0.N, win0_5.index t = ![t.val / 16, t.val / 4 % 4, t.val % 4])
theorem idx6 : ∀ t : Fin cfg0.N, win0_6.index t = ![t.val / 16, t.val / 4 % 4, 0] :=
  (by decide +kernel : ∀ t : Fin grid0.N, win0_6.index t = ![t.val / 16, t.val / 4 % 4, 0])

/-- The first output array after the launch, at a latent row. -/
theorem final5 (i : S8x4352x6656.Idx) (hi : (i 1).val < 4096) :
    (dats m 0 c).arrAt 5 (cfgs 0).N i = res1 (aX m c) (aSh m c) (aSc m c) (aW m c) i := by
  refine ((dats m 0 c).arrAt_apply_of_coversWhere 5 (res1 (aX m c) (aSh m c) (aSc m c) (aW m c)) (P := fun i => (i (1 : Fin 3)).val < 4096)
    (Q := fun β => β (1 : Fin 3) < 4) (by decide +kernel) (fun t hf y => ?_) (fun j => ?_) i).trans (if_pos hi)
  · have ht : t.val < 128 := lt_of_lt_of_eq t.isLt Gen.N_0
    blk_simp
    rw [after0_5]
    have y0 : (y 0).val < 1 := ((win0_5.xinj (grid0.coords t) y) 0).isLt
    have y1 : (y 1).val < 1024 := ((win0_5.xinj (grid0.coords t) y) 1).isLt
    have y2 : (y 2).val < 1664 := ((win0_5.xinj (grid0.coords t) y) 2).isLt
    obtain ⟨r, hr⟩ : ∃ r : Fin 1024, (r : ℕ) = (y 1).val := ⟨⟨(y 1).val, y1⟩, rfl⟩
    obtain ⟨e, he⟩ : ∃ e : Fin 1664, (e : ℕ) = (y 2).val := ⟨⟨(y 2).val, y2⟩, rfl⟩
    obtain ⟨k, hk⟩ : ∃ k : Fin 6656, (k : ℕ) = t.val % 4 * 1664 + e := ⟨⟨t.val % 4 * 1664 + e, by omega⟩, rfl⟩
    obtain ⟨J, hJ⟩ : ∃ J : Fin 4352, (J : ℕ) = jOf t r := ⟨⟨jOf t r, by omega⟩, rfl⟩
    have hJ' : (J : ℕ) = t.val / 4 % 4 * 1024 + r := hJ
    have hy : (win0_5.xinj (grid0.coords t) y) = ix3 0 r e := by
      blk_ext
    have hemb : (win0_5.blk t).view.emb y = ix3 (bOf t) J k := by
      unfold bOf
      blk_ext [idx5 t]
    refine Eq.trans ?_ ((congrArg (res1 (aX m c) (aSh m c) (aSc m c) (aW m c)) hemb).trans (res1_at _ _ _ _ (bOf t) J (jOf t r) hJ k)).symm
    exact (congrArg (k0_pay2 (hAt m c t) (iblk m c 3 t)) hy).trans (out5_at m c t r e k hk)
  · blk_simp [Pipeline.Window.cell_apply]
    omega

/-- The second output array after the launch, at a latent row. -/
theorem final6 (i : S8x4352x128.Idx) (hi : (i 1).val < 4096) :
    (dats m 0 c).arrAt 6 (cfgs 0).N i = res2 (aX m c) (aSh m c) (aSc m c) (aW m c) i := by
  refine ((dats m 0 c).arrAt_apply_of_coversWhere 6 (res2 (aX m c) (aSh m c) (aSc m c) (aW m c)) (P := fun i => (i (1 : Fin 3)).val < 4096)
    (Q := fun β => β (1 : Fin 3) < 4) (by decide +kernel) (fun t hf y => ?_) (fun j => ?_) i).trans (if_pos hi)
  · have ht : t.val < 128 := lt_of_lt_of_eq t.isLt Gen.N_0
    blk_simp
    rw [after0_6]
    have y0 : (y 0).val < 1 := ((win0_6.xinj (grid0.coords t) y) 0).isLt
    have y1 : (y 1).val < 1024 := ((win0_6.xinj (grid0.coords t) y) 1).isLt
    have y2 : (y 2).val < 128 := ((win0_6.xinj (grid0.coords t) y) 2).isLt
    obtain ⟨r, hr⟩ : ∃ r : Fin 1024, (r : ℕ) = (y 1).val := ⟨⟨(y 1).val, y1⟩, rfl⟩
    obtain ⟨e, he⟩ : ∃ e : Fin 128, (e : ℕ) = (y 2).val := ⟨⟨(y 2).val, y2⟩, rfl⟩
    obtain ⟨J, hJ⟩ : ∃ J : Fin 4352, (J : ℕ) = jOf t r := ⟨⟨jOf t r, by omega⟩, rfl⟩
    have hJ' : (J : ℕ) = t.val / 4 % 4 * 1024 + r := hJ
    have hy : (win0_6.xinj (grid0.coords t) y) = ix3 0 r e := by
      blk_ext
    have hemb : (win0_6.blk t).view.emb y = ix3 (bOf t) J e := by
      unfold bOf
      blk_ext [idx6 t]
    refine Eq.trans ?_ (congrArg (res2 (aX m c) (aSh m c) (aSc m c) (aW m c)) hemb).symm
    exact (congrArg (abAt m c t) hy).trans (out6_at m c t r e J hJ)
  · blk_simp [Pipeline.Window.cell_apply]
    omega

end Cert.Kernel2Ideal.Proj
-- ==== Proof.Proj.lean ====
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.On_latent_rows
public import proofs.«01_k».proof.Proof.ProjFinal
public import Idealize.ShloMosaic.Lib.Quiescent
public import Idealize.ShloMosaic.Lib.WordCmp
public import Idealize.ShloMosaic.Lib.Tactic.WordOmega

@[expose] public section

noncomputable section

namespace Cert.Proof

open Idealize.ShloMosaic Idealize.ShloMosaic.TcCoe Idealize.SL.Sem Idealize.ShloMosaic.Tactic

/-- The in-projection's reference runs, leaves its arguments unchanged and every counter at zero. -/
theorem proj_reference_frame : Cert.quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run m ρ)

/-- A row of 4352 is below 4096 where its number, as a word, is. -/
theorem latent_word (j : ℕ) (hj : j < 4352) (h : Scalar.cmpi .slt (BitVec.ofNat 32 j) 4096#32 = 1#1) : j < 4096 := by
  word_omega

/-- The rows the first result is compared at are the latent ones. -/
theorem latent1 (x : FVec Ideal Cert.On_latent_rows.S8x4096x1024 .f32) (sh sc : FVec Ideal Cert.On_latent_rows.S8x1x1024 .f32)
    (w : FVec Ideal Cert.On_latent_rows.S1024x6688 .f32) (i : (⟨3, ![8, 4352, 6656]⟩ : Shape).Idx)
    (h : (Cert.On_latent_rows.fn (F := Ideal) x sh sc w).1 i = 1#1) : (i 1).val < 4096 :=
  latent_word (i 1).val (i 1).isLt h

/-- The rows the second result is compared at are the latent ones. -/
theorem latent2 (x : FVec Ideal Cert.On_latent_rows.S8x4096x1024 .f32) (sh sc : FVec Ideal Cert.On_latent_rows.S8x1x1024 .f32)
    (w : FVec Ideal Cert.On_latent_rows.S1024x6688 .f32) (i : (⟨3, ![8, 4352, 128]⟩ : Shape).Idx)
    (h : (Cert.On_latent_rows.fn (F := Ideal) x sh sc w).2 i = 1#1) : (i 1).val < 4096 :=
  latent_word (i 1).val (i 1).isLt h

/-- The in-projection's launch and its reference compute the same two arrays over the extended reals, at every latent row. -/
theorem proj_value : Cert.algebraic_Kernel2Ideal_Reference2Ideal_on_latent_rows (hKernel2Ideal := Cert.Kernel2Ideal.Gen.facts)
    (hReference2Ideal := Cert.Reference2Ideal.Gen.facts) (hOn_latent_rows := Cert.On_latent_rows.Gen.facts) := by
  intro m g m' g' _ hag
  refine ⟨fun c => (Cert.Kernel2Ideal.Proj.dats m 0 c).arrAt 5 (Cert.Kernel2Ideal.cfgs 0).N,
    fun c => (Cert.Kernel2Ideal.Proj.dats m 0 c).arrAt 6 (Cert.Kernel2Ideal.cfgs 0).N, ?_, ?_⟩
  · refine (θ_run _ _ _).mono (fun r h c => ?_) (θ_run_and (Cert.Kernel2Ideal.Proj.run_main m g) (Cert.Kernel2Ideal.Proj.unchanged m g))
    exact ⟨fun i _ => congrFun ((h.1 c).1 5) i, fun i _ => congrFun ((h.1 c).1 6) i, h.2 c⟩
  · refine (θ_run _ _ _).mono (fun r h c => ?_) (Cert.Reference2Ideal.Proj.run' m' g')
    obtain ⟨h0, h1, h2, h3⟩ := hag c
    obtain ⟨e1, e2, e3⟩ := h c
    rw [h0, h1, h2, h3] at e1 e2
    exact ⟨fun i hi => (congrFun e1 i).trans (Cert.Kernel2Ideal.Proj.final5 m c i (latent1 _ _ _ _ i hi)).symm,
      fun i hi => (congrFun e2 i).trans (Cert.Kernel2Ideal.Proj.final6 m c i (latent2 _ _ _ _ i hi)).symm, e3⟩

end Cert.Proof

end
-- ==== Proof.MergePay.lean ====
module

public import proofs.«01_k».proof.Proof.MergeRow
public import proofs.«01_k».proof.Proof.Gen.Kernel3Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Merge

open Idealize.ShloMosaic Idealize.ShloMosaic.TcCoe Idealize.SL.Sem Idealize.ShloMosaic.Tactic
open Cert.Kernel3Ideal Cert.Kernel3Ideal.Gen Cert.Kernel3Ideal.Value
open Cert.MergeRow

/-! ## The heads -/

section heads
variable (x0 x1 x2 : Vec Ideal S1x512x1024 .bf16) (nw : Vec Ideal S1x128 .f32) (O Z : Fin 512 → Fin 1024 → EReal) (W : Fin 128 → EReal)
  (v6 v9 : FVec Ideal S512x1024 .f32)
  (h6 : ∀ (r : Fin 512) (e : Fin 1024), v6 (ix2 r e) = O r e)
  (h9 : ∀ (r : Fin 512) (e : Fin 1024), v9 (ix2 r e) = Z r e)
  (hn : ∀ (d : Fin 128), nw (ix2 0 d) = W d)

theorem pay1_at (r : Fin 512) (e : Fin 1024) : k0_pay1 x0 x1 (ix2 r e) = x0 (ix3 0 r e) + x1 (ix3 0 r e) := by
  unfold k0_pay1
  pointwise

theorem pay2_at (r : Fin 512) (e : Fin 1024) : k0_pay2 x2 (ix2 r e) = x2 (ix3 0 r e) := by
  unfold k0_pay2
  pointwise

include h6 h9 hn in
theorem pay6_at (r : Fin 512) (d : Fin 128) : k0_pay6 v6 v9 nw (ix2 r d) = head (O r) (Z r) W 2 d := by
  unfold k0_pay6 head
  pointwise [h6, h9, hn]

include h6 h9 hn in
theorem pay7_at (r : Fin 512) (d : Fin 128) : k0_pay7 v6 v9 nw (ix2 r d) = head (O r) (Z r) W 3 d := by
  unfold k0_pay7 head
  pointwise [h6, h9, hn]

/-- The fourth head at the products' precision. -/
theorem pay8_at (v : FVec Ideal S512x128 .f32) (r : Fin 512) (d : Fin 128) : k0_pay8 v (ix2 r d) = v (ix2 r d) := by
  unfold k0_pay8
  pointwise

include h6 h9 hn in
theorem pay9_at (r : Fin 512) (d : Fin 128) : k0_pay9 v6 v9 nw (ix2 r d) = head (O r) (Z r) W 4 d := by
  unfold k0_pay9 head
  pointwise [h6, h9, hn]

include h6 h9 hn in
theorem pay10_at (r : Fin 512) (d : Fin 128) : k0_pay10 v6 v9 nw (ix2 r d) = head (O r) (Z r) W 5 d := by
  unfold k0_pay10 head
  pointwise [h6, h9, hn]

/-- The first head, from the blocks of the two directions and of the gate. -/
theorem pay3_at (ho : ∀ (r : Fin 512) (e : Fin 1024), x0 (ix3 0 r e) + x1 (ix3 0 r e) = O r e)
    (hz : ∀ (r : Fin 512) (e : Fin 1024), x2 (ix3 0 r e) = Z r e) (hn : ∀ (d : Fin 128), nw (ix2 0 d) = W d)
    (r : Fin 512) (d : Fin 128) : k0_pay3 x0 x1 x2 nw (ix2 r d) = head (O r) (Z r) W 0 d := by
  unfold k0_pay3 head
  pointwise [pay1_at, pay2_at, ho, hz, hn]

/-- The second head, from the blocks of the two directions and the gate. -/
theorem pay5_at (ho : ∀ (r : Fin 512) (e : Fin 1024), x0 (ix3 0 r e) + x1 (ix3 0 r e) = O r e)
    (h9 : ∀ (r : Fin 512) (e : Fin 1024), v9 (ix2 r e) = Z r e) (hn : ∀ (d : Fin 128), nw (ix2 0 d) = W d)
    (r : Fin 512) (d : Fin 128) : k0_pay5 v9 (k0_pay4 x0 x1) nw (ix2 r d) = head (O r) (Z r) W 1 d := by
  unfold k0_pay5 k0_pay4 head
  pointwise [pay1_at, ho, h9, hn]

include h6 h9 hn in
/-- The heads side by side times their matrix. -/
theorem pay13_at (w : Vec Ideal S1024x1024 .bf16) (p0 p1 p2 p3 p4 p5 : FVec Ideal S512x128 .bf16)
    (e0 : ∀ (r : Fin 512) (d : Fin 128), p0 (ix2 r d) = head (O r) (Z r) W 0 d)
    (e1 : ∀ (r : Fin 512) (d : Fin 128), p1 (ix2 r d) = head (O r) (Z r) W 1 d)
    (e2 : ∀ (r : Fin 512) (d : Fin 128), p2 (ix2 r d) = head (O r) (Z r) W 2 d)
    (e3 : ∀ (r : Fin 512) (d : Fin 128), p3 (ix2 r d) = head (O r) (Z r) W 3 d)
    (e4 : ∀ (r : Fin 512) (d : Fin 128), p4 (ix2 r d) = head (O r) (Z r) W 4 d)
    (e5 : ∀ (r : Fin 512) (d : Fin 128), p5 (ix2 r d) = head (O r) (Z r) W 5 d)
    (r : Fin 512) (e : Fin 1024) :
    k0_pay13 v6 v9 p0 p1 p2 p3 p4 p5 (k0_pay11 v6) (k0_pay12 v6) (FloatOps.ofBits FTy.f32 0x358637BD#32) nw nw w (ix2 r e)
      = rowMul (heads (O r) (Z r) W) (fun i e => w (ix2 i e)) e := by
  unfold k0_pay13 k0_pay12 k0_pay11 rowMul
  pointwise [h6, h9, hn, e0, e1, e2, e3, e4, e5]
  refine Finset.sum_congr rfl fun x _ => congrArg (· * w (ix2 x e)) ?_
  have hx := x.isLt
  by_cases c0 : x.val < 128
  · refine (dif_pos c0).trans ?_
    exact (heads_eq (O r) (Z r) W x 0 ⟨x.val, by omega⟩ (by show x.val = 0 * 128 + (x.val); omega)).symm
  refine (dif_neg c0).trans ?_
  by_cases c1 : x.val - 128 < 128
  · refine (dif_pos c1).trans ?_
    exact (heads_eq (O r) (Z r) W x 1 ⟨x.val - 128, by omega⟩ (by show x.val = 1 * 128 + (x.val - 128); omega)).symm
  refine (dif_neg c1).trans ?_
  by_cases c2 : x.val - 128 - 128 < 128
  · refine (dif_pos c2).trans ?_
    exact (heads_eq (O r) (Z r) W x 2 ⟨x.val - 128 - 128, by omega⟩ (by show x.val = 2 * 128 + (x.val - 128 - 128); omega)).symm
  refine (dif_neg c2).trans ?_
  by_cases c3 : x.val - 128 - 128 - 128 < 128
  · refine (dif_pos c3).trans ?_
    exact (heads_eq (O r) (Z r) W x 3 ⟨x.val - 128 - 128 - 128, by omega⟩ (by show x.val = 3 * 128 + (x.val - 128 - 128 - 128); omega)).symm
  refine (dif_neg c3).trans ?_
  by_cases c4 : x.val - 128 - 128 - 128 - 128 < 128
  · refine (dif_pos c4).trans ?_
    exact (heads_eq (O r) (Z r) W x 4 ⟨x.val - 128 - 128 - 128 - 128, by omega⟩ (by show x.val = 4 * 128 + (x.val - 128 - 128 - 128 - 128); omega)).symm
  refine (dif_neg c4).trans ?_
  by_cases c5 : x.val - 128 - 128 - 128 - 128 - 128 < 128
  · refine (dif_pos c5).trans ?_
    exact (heads_eq (O r) (Z r) W x 5 ⟨x.val - 128 - 128 - 128 - 128 - 128, by omega⟩ (by show x.val = 5 * 128 + (x.val - 128 - 128 - 128 - 128 - 128); omega)).symm
  refine (dif_neg c5).trans ?_
  by_cases c6 : x.val - 128 - 128 - 128 - 128 - 128 - 128 < 128
  · refine (dif_pos c6).trans ?_
    exact (heads_eq (O r) (Z r) W x 6 ⟨x.val - 128 - 128 - 128 - 128 - 128 - 128, by omega⟩ (by show x.val = 6 * 128 + (x.val - 128 - 128 - 128 - 128 - 128 - 128); omega)).symm
  refine (dif_neg c6).trans ?_
  exact (heads_eq (O r) (Z r) W x 7 ⟨x.val - 128 - 128 - 128 - 128 - 128 - 128 - 128, by omega⟩ (by show x.val = 7 * 128 + (x.val - 128 - 128 - 128 - 128 - 128 - 128 - 128); omega)).symm

end heads

/-! ## The projections, the gates and the two normalisations -/

theorem pay14_at (f : Vec Ideal S1x512x512 .bf16) (w : Vec Ideal S512x1024 .bf16) (r : Fin 512) (e : Fin 1024) :
    k0_pay14 f w (ix2 r e) = rowMul (fun i => f (ix3 0 r i)) (fun i e => w (ix2 i e)) e := by
  unfold k0_pay14 rowMul
  pointwise

/-- The centred residual sum. -/
theorem pay16_at (dn four : FVec Ideal S512x1024 .f32) (g0 g1 : Vec Ideal S1x512x1024 .bf16) (w : Vec Ideal S1024x1024 .bf16)
    (md : Vec Ideal S1x6x1024 .f32) (x : Vec Ideal S1x512x1024 .f32) (r : Fin 512) (e : Fin 1024) :
    k0_pay16 dn four g0 g1 w md x (ix2 r e)
      = cent (resid (fun e => dn (ix2 r e)) (fun e => four (ix2 r e)) (fun e => g0 (ix3 0 r e)) (fun e => g1 (ix3 0 r e))
          (fun e => x (ix3 0 r e)) (fun e => md (ix3 0 2 e)) (fun i e => w (ix2 i e))) e := by
  unfold k0_pay16 k0_pay15 cent mean resid rowMul
  pointwise

/-- The factor that normalises it. -/
theorem pay17_at (dn four : FVec Ideal S512x1024 .f32) (g0 g1 : Vec Ideal S1x512x1024 .bf16) (w : Vec Ideal S1024x1024 .bf16)
    (md : Vec Ideal S1x6x1024 .f32) (x : Vec Ideal S1x512x1024 .f32) (r : Fin 512) (e : Fin 1024) :
    k0_pay17 dn four g0 g1 w md x (ix2 r e)
      = scale (cent (resid (fun e => dn (ix2 r e)) (fun e => four (ix2 r e)) (fun e => g0 (ix3 0 r e)) (fun e => g1 (ix3 0 r e))
          (fun e => x (ix3 0 r e)) (fun e => md (ix3 0 2 e)) (fun i e => w (ix2 i e)))) := by
  unfold k0_pay17 scale
  pointwise [pay16_at]

section post
variable (v209 v218 : FVec Ideal S512x1024 .f32) (g b : Vec Ideal S1x1024 .f32) (R : Fin 512 → Fin 1024 → EReal)
  (h1 : ∀ (r : Fin 512) (e : Fin 1024), v209 (ix2 r e) = cent (R r) e)
  (h2 : ∀ (r : Fin 512) (e : Fin 1024), v218 (ix2 r e) = scale (cent (R r)))

include h1 h2 in
theorem pay18_at (r : Fin 512) (e : Fin 1024) :
    k0_pay18 v209 v218 g b (ix2 r e) = postn (R r) (fun e => g (ix2 0 e)) (fun e => b (ix2 0 e)) e := by
  unfold k0_pay18 postn
  pointwise [h1, h2]

include h1 h2 in
theorem pay19_at (r : Fin 512) (e : Fin 1024) :
    k0_pay19 v209 v218 g b (ix3 0 r e) = postn (R r) (fun e => g (ix2 0 e)) (fun e => b (ix2 0 e)) e := by
  unfold k0_pay19
  pointwise [pay18_at v209 v218 g b R h1 h2]

include h1 h2 in
theorem pay20_at (md : Vec Ideal S1x6x1024 .f32) (r : Fin 512) (e : Fin 1024) :
    k0_pay20 (k0_pay15 md) v209 v218 g b (ix2 r e)
      = modul (postn (R r) (fun e => g (ix2 0 e)) (fun e => b (ix2 0 e))) (fun e => md (ix3 0 4 e)) (fun e => md (ix3 0 3 e)) e := by
  unfold k0_pay20 k0_pay15 modul scale cent mean
  pointwise [pay18_at v209 v218 g b R h1 h2]

include h1 h2 in
theorem pay21_at (md : Vec Ideal S1x6x1024 .f32) (r : Fin 512) (e : Fin 1024) :
    k0_pay21 (k0_pay15 md) v209 v218 g b (ix3 0 r e)
      = modul (postn (R r) (fun e => g (ix2 0 e)) (fun e => b (ix2 0 e))) (fun e => md (ix3 0 4 e)) (fun e => md (ix3 0 3 e)) e := by
  unfold k0_pay21
  pointwise [pay20_at v209 v218 g b R h1 h2]

include h1 h2 in
theorem pay22_at (md : Vec Ideal S1x6x1024 .f32) (r : Fin 512) (e : Fin 1024) :
    k0_pay22 (k0_pay15 md) v209 v218 g b (ix2 e r)
      = modul (postn (R r) (fun e => g (ix2 0 e)) (fun e => b (ix2 0 e))) (fun e => md (ix3 0 4 e)) (fun e => md (ix3 0 3 e)) e := by
  unfold k0_pay22
  pointwise [pay20_at v209 v218 g b R h1 h2]

end post

end Cert.Kernel3Ideal.Merge
-- ==== Proof.MergeIdx.lean ====
module

public import proofs.«01_k».proof.Proof.Gen.Kernel3Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel3Ideal.Merge

open Idealize.ShloMosaic Idealize.ShloMosaic.TcCoe Idealize.SL.Sem Idealize.ShloMosaic.Tactic
open Idealize.ShloMosaic.StableHlo
open Cert.Kernel3Ideal Cert.Kernel3Ideal.Gen Cert.Kernel3Ideal.Value

variable (m : (ℓ : Loc nD τ sig) → Buf (Elt Ideal) ℓ) (c : Dev nD)

/-- The arrays the program takes. -/
abbrev aOf : FVec Ideal S8x4096x1024 .bf16 := m ((c.tc : Thread nD τ).loc main_arg0)
/-- The arrays the program takes. -/
abbrev aOb : FVec Ideal S8x4096x1024 .bf16 := m ((c.tc : Thread nD τ).loc main_arg1)
/-- The arrays the program takes. -/
abbrev aP : FVec Ideal S8x4352x6656 .bf16 := m ((c.tc : Thread nD τ).loc main_arg2)
/-- The arrays the program takes. -/
abbrev aFo : FVec Ideal S8x4096x512 .bf16 := m ((c.tc : Thread nD τ).loc main_arg3)
/-- The arrays the program takes. -/
abbrev aX : FVec Ideal S8x4096x1024 .f32 := m ((c.tc : Thread nD τ).loc main_arg4)
/-- The arrays the program takes. -/
abbrev aM : FVec Ideal S8x6x1024 .f32 := m ((c.tc : Thread nD τ).loc main_arg5)
/-- The arrays the program takes. -/
abbrev aN : FVec Ideal S128 .f32 := m ((c.tc : Thread nD τ).loc main_arg6)
/-- The arrays the program takes. -/
abbrev aW4 : FVec Ideal S512x1024 .f32 := m ((c.tc : Thread nD τ).loc main_arg7)
/-- The arrays the program takes. -/
abbrev aWd : FVec Ideal S1024x1024 .f32 := m ((c.tc : Thread nD τ).loc main_arg8)
/-- The arrays the program takes. -/
abbrev aWo : FVec Ideal S1024x1024 .f32 := m ((c.tc : Thread nD τ).loc main_arg9)
/-- The arrays the program takes. -/
abbrev aG : FVec Ideal S2x1024 .f32 := m ((c.tc : Thread nD τ).loc main_arg10)
/-- The arrays the program takes. -/
abbrev aB : FVec Ideal S2x1024 .f32 := m ((c.tc : Thread nD τ).loc main_arg11)

theorem idx0 : ∀ t : Fin cfg0.N, win0_0.index t = ![t.val / 8, t.val % 8, 0] :=
  (by decide +kernel : ∀ t : Fin grid0.N, win0_0.index t = ![t.val / 8, t.val % 8, 0])
/-- A block of the launch, read at an entry: the array at the block's tokens. -/
theorem blk0 (t : Fin cfg0.N) (b : Fin 8) (j : Fin 4096) (r : Fin 512) (hb : (b : ℕ) = t.val / 8) (hj : (j : ℕ) = t.val % 8 * 512 + r) (e : Fin 1024) :
    iblk m c 0 t (ix3 0 r e) = aOf m c (ix3 b j e) := by
  blk_point [iblk, V, idx0 t]

theorem idx1 : ∀ t : Fin cfg0.N, win0_1.index t = ![t.val / 8, t.val % 8, 0] :=
  (by decide +kernel : ∀ t : Fin grid0.N, win0_1.index t = ![t.val / 8, t.val % 8, 0])
/-- A block of the launch, read at an entry: the array at the block's tokens. -/
theorem blk1 (t : Fin cfg0.N) (b : Fin 8) (j : Fin 4096) (r : Fin 512) (hb : (b : ℕ) = t.val / 8) (hj : (j : ℕ) = t.val % 8 * 512 + r) (e : Fin 1024) :
    iblk m c 1 t (ix3 0 r e) = aOb m c (ix3 b j e) := by
  blk_point [iblk, V, idx1 t]

theorem idx5 : ∀ t : Fin cfg0.N, win0_5.index t = ![t.val / 8, t.val % 8, 0] :=
  (by decide +kernel : ∀ t : Fin grid0.N, win0_5.index t = ![t.val / 8, t.val % 8, 0])
/-- A block of the launch, read at an entry: the array at the block's tokens. -/
theorem blk5 (t : Fin cfg0.N) (b : Fin 8) (j : Fin 4096) (r : Fin 512) (hb : (b : ℕ) = t.val / 8) (hj : (j : ℕ) = t.val % 8 * 512 + r) (e : Fin 512) :
    iblk m c 5 t (ix3 0 r e) = aFo m c (ix3 b j e) := by
  blk_point [iblk, V, idx5 t]

theorem idx6 : ∀ t : Fin cfg0.N, win0_6.index t = ![t.val / 8, t.val % 8, 0] :=
  (by decide +kernel : ∀ t : Fin grid0.N, win0_6.index t = ![t.val / 8, t.val % 8, 0])
/-- A block of the launch, read at an entry: the array at the block's tokens. -/
theorem blk6 (t : Fin cfg0.N) (b : Fin 8) (j : Fin 4096) (r : Fin 512) (hb : (b : ℕ) = t.val / 8) (hj : (j : ℕ) = t.val % 8 * 512 + r) (e : Fin 1024) :
    iblk m c 6 t (ix3 0 r e) = aX m c (ix3 b j e) := by
  blk_point [iblk, V, idx6 t]

theorem idx2 : ∀ t : Fin cfg0.N, win0_2.index t = ![t.val / 8, t.val % 8, 3] :=
  (by decide +kernel : ∀ t : Fin grid0.N, win0_2.index t = ![t.val / 8, t.val % 8, 3])
/-- A column block of the projections, read at an entry. -/
theorem blk2 (t : Fin cfg0.N) (b : Fin 8) (j : Fin 4096) (r : Fin 512) (hb : (b : ℕ) = t.val / 8) (hj : (j : ℕ) = t.val % 8 * 512 + r) (e : Fin 1024) :
    X0_2 m c t (ix3 0 r e) = aP m c (ix3 b ⟨j, by omega⟩ ⟨3072 + e, by omega⟩) := by
  unfold X0_2 Pipeline.Window.fill
  rw [dif_pos (moved0_2 t _)]
  blk_point [iblk, V, idx2 t]

theorem idx3 : ∀ t : Fin cfg0.N, win0_3.index t = ![t.val / 8, t.val % 8, 4] :=
  (by decide +kernel : ∀ t : Fin grid0.N, win0_3.index t = ![t.val / 8, t.val % 8, 4])
/-- A column block of the projections, read at an entry. -/
theorem blk3 (t : Fin cfg0.N) (b : Fin 8) (j : Fin 4096) (r : Fin 512) (hb : (b : ℕ) = t.val / 8) (hj : (j : ℕ) = t.val % 8 * 512 + r) (e : Fin 1024) :
    X0_3 m c t (ix3 0 r e) = aP m c (ix3 b ⟨j, by omega⟩ ⟨4096 + e, by omega⟩) := by
  unfold X0_3 Pipeline.Window.fill
  rw [dif_pos (moved0_3 t _)]
  blk_point [iblk, V, idx3 t]

theorem idx4 : ∀ t : Fin cfg0.N, win0_4.index t = ![t.val / 8, t.val % 8, 5] :=
  (by decide +kernel : ∀ t : Fin grid0.N, win0_4.index t = ![t.val / 8, t.val % 8, 5])
/-- A column block of the projections, read at an entry. -/
theorem blk4 (t : Fin cfg0.N) (b : Fin 8) (j : Fin 4096) (r : Fin 512) (hb : (b : ℕ) = t.val / 8) (hj : (j : ℕ) = t.val % 8 * 512 + r) (e : Fin 1024) :
    X0_4 m c t (ix3 0 r e) = aP m c (ix3 b ⟨j, by omega⟩ ⟨4096 + (1024 + e), by omega⟩) := by
  unfold X0_4 Pipeline.Window.fill
  rw [dif_pos (moved0_4 t _)]
  blk_point [iblk, V, idx4 t]

theorem idx7 : ∀ t : Fin cfg0.N, win0_7.index t = ![t.val / 8, 0, 0] :=
  (by decide +kernel : ∀ t : Fin grid0.N, win0_7.index t = ![t.val / 8, 0, 0])
/-- The modulation's block, read at an entry. -/
theorem blk7 (t : Fin cfg0.N) (b : Fin 8) (hb : (b : ℕ) = t.val / 8) (i : Fin 6) (e : Fin 1024) :
    iblk m c 7 t (ix3 0 i e) = aM m c (ix3 b i e) := by
  blk_point [iblk, V, idx7 t]

/-- A host value at the launch's entry. -/
theorem V8 (d : Fin 128) : V m c main_v0 (ix2 0 d) = aN m c (ix1 d) := by
  unfold V hostOps0
  after_reads_at

theorem idx8 : ∀ t : Fin cfg0.N, win0_8.index t = ![0, 0] :=
  (by decide +kernel : ∀ t : Fin grid0.N, win0_8.index t = ![0, 0])
/-- A block that is a whole array, read at an entry. -/
theorem blk8 (t : Fin cfg0.N) (d : Fin 128) : iblk m c 8 t (ix2 0 d) = aN m c (ix1 d) := by
  refine Eq.trans ?_ (V8 m c d)
  blk_point [iblk, idx8 t]

/-- A host value at the launch's entry. -/
theorem V9 (i : Fin 512) (e : Fin 1024) : V m c main_v1 (ix2 i e) = aW4 m c (ix2 i e) := by
  unfold V hostOps0
  after_reads_at

theorem idx9 : ∀ t : Fin cfg0.N, win0_9.index t = ![0, 0] :=
  (by decide +kernel : ∀ t : Fin grid0.N, win0_9.index t = ![0, 0])
/-- A block that is a whole array, read at an entry. -/
theorem blk9 (t : Fin cfg0.N) (i : Fin 512) (e : Fin 1024) : iblk m c 9 t (ix2 i e) = aW4 m c (ix2 i e) := by
  refine Eq.trans ?_ (V9 m c i e)
  blk_point [iblk, idx9 t]

/-- A host value at the launch's entry. -/
theorem V10 (i e : Fin 1024) : V m c main_v2 (ix2 i e) = aWd m c (ix2 i e) := by
  unfold V hostOps0
  after_reads_at

theorem idx10 : ∀ t : Fin cfg0.N, win0_10.index t = ![0, 0] :=
  (by decide +kernel : ∀ t : Fin grid0.N, win0_10.index t = ![0, 0])
/-- A block that is a whole array, read at an entry. -/
theorem blk10 (t : Fin cfg0.N) (i e : Fin 1024) : iblk m c 10 t (ix2 i e) = aWd m c (ix2 i e) := by
  refine Eq.trans ?_ (V10 m c i e)
  blk_point [iblk, idx10 t]

/-- A host value at the launch's entry. -/
theorem V11 (i e : Fin 1024) : V m c main_v3 (ix2 i e) = aWo m c (ix2 i e) := by
  unfold V hostOps0
  after_reads_at

theorem idx11 : ∀ t : Fin cfg0.N, win0_11.index t = ![0, 0] :=
  (by decide +kernel : ∀ t : Fin grid0.N, win0_11.index t = ![0, 0])
/-- A block that is a whole array, read at an entry. -/
theorem blk11 (t : Fin cfg0.N) (i e : Fin 1024) : iblk m c 11 t (ix2 i e) = aWo m c (ix2 i e) := by
  refine Eq.trans ?_ (V11 m c i e)
  blk_point [iblk, idx11 t]

/-- A host value at the launch's entry. -/
theorem V12 (e : Fin 1024) : V m c main_v4 (ix2 0 e) = aG m c (ix2 0 e) := by
  unfold V hostOps0
  after_reads_at

theorem idx12 : ∀ t : Fin cfg0.N, win0_12.index t = ![0, 0] :=
  (by decide +kernel : ∀ t : Fin grid0.N, win0_12.index t = ![0, 0])
/-- A block that is a whole array, read at an entry. -/
theorem blk12 (t : Fin cfg0.N) (e : Fin 1024) : iblk m c 12 t (ix2 0 e) = aG m c (ix2 0 e) := by
  refine Eq.trans ?_ (V12 m c e)
  blk_point [iblk, idx12 t]

/-- A host value at the launch's entry. -/
theorem V13 (e : Fin 1024) : V m c main_v5 (ix2 0 e) = aB m c (ix2 0 e) := by
  unfold V hostOps0
  after_reads_at

theorem idx13 : ∀ t : Fin cfg0.N, win0_13.index t = ![0, 0] :=
  (by decide +kernel : ∀ t : Fin grid0.N, win0_13.index t = ![0, 0])
/-- A block that is a whole array, read at an entry. -/
theorem blk13 (t : Fin cfg0.N) (e : Fin 1024) : iblk m c 13 t (ix2 0 e) = aB m c (ix2 0 e) := by
  refine Eq.trans ?_ (V13 m c e)
  blk_point [iblk, idx13 t]

end Cert.Kernel3Ideal.Merge
-- ==== Proof.MergeRef.lean ====
module

public import proofs.«01_k».proof.Proof.MergeRow
public import proofs.«01_k».proof.Proof.Gen.Reference3Ideal.Run
public import Idealize.ShloMosaic.Lib.Pointwise
public import Idealize.ShloMosaic.Lib.StableHlo.ReadAt

@[expose] public section

set_option maxRecDepth 16384

noncomputable section

namespace Cert.Reference3Ideal.Merge

open Idealize.ShloMosaic Idealize.ShloMosaic.TcCoe Idealize.SL.Sem
open Idealize.ShloMosaic.StableHlo Idealize.ShloMosaic.Tactic
open Cert.Reference3Ideal Cert.Reference3Ideal.Gen Cert.Reference3Ideal.Value
open Cert.MergeRow

variable (V0 : Valuation τ sig (Elt Ideal))

/-- The arguments at an entry. -/
abbrev rOf (b : Fin 8) (j : Fin 4096) (e : Fin 1024) : EReal := (V0 (Proc.devRef .tc main_arg0) : FVec Ideal S8x4096x1024 .bf16) (ix3 b j e)
/-- The arguments at an entry. -/
abbrev rOb (b : Fin 8) (j : Fin 4096) (e : Fin 1024) : EReal := (V0 (Proc.devRef .tc main_arg1) : FVec Ideal S8x4096x1024 .bf16) (ix3 b j e)
/-- The arguments at an entry. -/
abbrev rP (b : Fin 8) (j : Fin 4352) (e : Fin 6656) : EReal := (V0 (Proc.devRef .tc main_arg2) : FVec Ideal S8x4352x6656 .bf16) (ix3 b j e)
/-- The arguments at an entry. -/
abbrev rFo (b : Fin 8) (j : Fin 4096) (e : Fin 512) : EReal := (V0 (Proc.devRef .tc main_arg3) : FVec Ideal S8x4096x512 .bf16) (ix3 b j e)
/-- The arguments at an entry. -/
abbrev rX (b : Fin 8) (j : Fin 4096) (e : Fin 1024) : EReal := (V0 (Proc.devRef .tc main_arg4) : FVec Ideal S8x4096x1024 .f32) (ix3 b j e)
/-- The arguments at an entry. -/
abbrev rM (b : Fin 8) (j : Fin 6) (e : Fin 1024) : EReal := (V0 (Proc.devRef .tc main_arg5) : FVec Ideal S8x6x1024 .f32) (ix3 b j e)
/-- The arguments at an entry. -/
abbrev rN (d : Fin 128) : EReal := (V0 (Proc.devRef .tc main_arg6) : FVec Ideal S128 .f32) (ix1 d)
/-- The arguments at an entry. -/
abbrev rW4 (i : Fin 512) (e : Fin 1024) : EReal := (V0 (Proc.devRef .tc main_arg7) : FVec Ideal S512x1024 .f32) (ix2 i e)
/-- The arguments at an entry. -/
abbrev rWd (i : Fin 1024) (e : Fin 1024) : EReal := (V0 (Proc.devRef .tc main_arg8) : FVec Ideal S1024x1024 .f32) (ix2 i e)
/-- The arguments at an entry. -/
abbrev rWo (i : Fin 1024) (e : Fin 1024) : EReal := (V0 (Proc.devRef .tc main_arg9) : FVec Ideal S1024x1024 .f32) (ix2 i e)
/-- The arguments at an entry. -/
abbrev rG (i : Fin 2) (e : Fin 1024) : EReal := (V0 (Proc.devRef .tc main_arg10) : FVec Ideal S2x1024 .f32) (ix2 i e)
/-- The arguments at an entry. -/
abbrev rB (i : Fin 2) (e : Fin 1024) : EReal := (V0 (Proc.devRef .tc main_arg11) : FVec Ideal S2x1024 .f32) (ix2 i e)

theorem v1_at (b : Fin 8) (j : Fin 4096) (e : Fin 6656) : res_main_v1 V0 (ix3 b j e) = rP V0 b ⟨j, by omega⟩ e := by
  unfold res_main_v1
  pointwise

theorem v5_at (b : Fin 8) (j : Fin 4096) (h : Fin 8) (d : Fin 128) :
    res_main_v5 V0 (ix4 b j h d) = rOf V0 b j ⟨h * 128 + d, by omega⟩ + rOb V0 b j ⟨h * 128 + d, by omega⟩ := by
  unfold res_main_v5
  pointwise

theorem v7_at (b : Fin 8) (j : Fin 4096) (h : Fin 8) (d : Fin 128) :
    res_main_v7 V0 (ix4 b j h d) = rP V0 b ⟨j, by omega⟩ ⟨3072 + (h * 128 + d), by omega⟩ := by
  unfold res_main_v7
  pointwise [v1_at]

theorem v34_at (b : Fin 8) (j : Fin 4096) (i : Fin 2) (e : Fin 1024) :
    res_main_v34 V0 (ix4 b j i e) = Ideal.logistic (rP V0 b ⟨j, by omega⟩ ⟨4096 + (i * 1024 + e), by omega⟩) := by
  unfold res_main_v34 Ideal.logistic
  pointwise [v1_at]

theorem v43_at (b : Fin 8) (i : Fin 6) (e : Fin 1024) : res_main_v43 V0 (ix4 b i 0 e) = rM V0 b i e := by
  unfold res_main_v43
  pointwise

/-- The reference's residual sum, of one token. -/
def rR (b : Fin 8) (j : Fin 4096) : Fin 1024 → EReal :=
  resid
    (rowMul (heads (fun e => rOf V0 b j e + rOb V0 b j e) (fun e => rP V0 b ⟨j, by omega⟩ ⟨3072 + e, by omega⟩) (rN V0)) (rWd V0))
    (rowMul (rFo V0 b j) (rW4 V0))
    (fun e => rP V0 b ⟨j, by omega⟩ ⟨4096 + e, by omega⟩) (fun e => rP V0 b ⟨j, by omega⟩ ⟨4096 + (1024 + e), by omega⟩)
    (rX V0 b j) (rM V0 b 2) (rWo V0)

theorem v54_at (b : Fin 8) (j : Fin 4096) (e : Fin 1024) : res_main_v54 V0 (ix3 b j e) = rR V0 b j e := by
  unfold res_main_v54 rR resid rowMul heads head
  pointwise [v5_at, v7_at, v34_at, v43_at]
  simp only [Ideal.logistic, alpha, c128, eps, rOf, rOb, rP, rFo, rX, rM, rN, rW4, rWd, rWo]

theorem v58_at (b : Fin 8) (j : Fin 4096) : res_main_v58 V0 (ix3 b j 0) = mean (rR V0 b j) := by
  unfold res_main_v58 mean
  pointwise [v54_at]

theorem v60_at (b : Fin 8) (j : Fin 4096) (e : Fin 1024) : res_main_v60 V0 (ix3 b j e) = cent (rR V0 b j) e := by
  unfold res_main_v60 cent
  pointwise [v54_at, v58_at]

/-- The reference's first result, of one token. -/
def rX1 (b : Fin 8) (j : Fin 4096) : Fin 1024 → EReal := postn (rR V0 b j) (rG V0 0) (rB V0 0)

theorem v78_at (b : Fin 8) (j : Fin 4096) (e : Fin 1024) : res_main_v78 V0 (ix3 b j e) = rX1 V0 b j e := by
  unfold res_main_v78 rX1 postn scale
  pointwise [v54_at, v58_at, v60_at]
  unfold cent
  rfl

theorem v82_at (b : Fin 8) (j : Fin 4096) : res_main_v82 V0 (ix3 b j 0) = mean (rX1 V0 b j) := by
  unfold res_main_v82 mean
  pointwise [v78_at]

theorem v84_at (b : Fin 8) (j : Fin 4096) (e : Fin 1024) : res_main_v84 V0 (ix3 b j e) = cent (rX1 V0 b j) e := by
  unfold res_main_v84 cent
  pointwise [v78_at, v82_at]

/-- The reference's modulated row, of one token. -/
def rH2 (b : Fin 8) (j : Fin 4096) : Fin 1024 → EReal := modul (rX1 V0 b j) (rM V0 b 4) (rM V0 b 3)

theorem v106_at (b : Fin 8) (j : Fin 4096) (e : Fin 1024) : res_main_v106 V0 (ix3 b j e) = rH2 V0 b j e := by
  unfold res_main_v106 rH2 modul scale
  pointwise [v78_at, v82_at, v84_at, v43_at]
  unfold cent
  rfl

/-- The reference's second result. -/
def res2 : FVec Ideal S8x4096x1024 .bf16 := truncf .bf16 (res_main_v106 V0) bitsLt_bf16_f32

/-- The reference's third result. -/
def res3 : FVec Ideal S1024x32768 .bf16 :=
  truncf .bf16 (transpose S1024x32768 [1, 0] (shapeCast _ (res_main_v106 V0) shapeCasts_S8x4096x1024_S32768x1024) transposes_S32768x1024_S1024x32768_1_0) bitsLt_bf16_f32

/-- The reference's second result at an entry. -/
theorem res2_at (b : Fin 8) (j : Fin 4096) (e : Fin 1024) : res2 V0 (ix3 b j e) = rH2 V0 b j e := by
  unfold res2
  pointwise [v106_at]

/-- The reference's third result at an entry. -/
theorem res3_point (b : Fin 8) (j : Fin 4096) (e : Fin 1024) : res3 V0 (ix2 e ⟨b * 4096 + j, by omega⟩) = rH2 V0 b j e := by
  unfold res3
  pointwise [v106_at]

/-- The reference's third result at an entry, by its column's value. -/
theorem res3_at (b : Fin 8) (j : Fin 4096) (e : Fin 1024) (n : Fin 32768) (hn : (n : ℕ) = b * 4096 + j) :
    res3 V0 (ix2 e n) = rH2 V0 b j e :=
  (congrArg (fun n : Fin 32768 => res3 V0 (ix2 e n)) (Fin.ext hn)).trans (res3_point V0 b j e)

end Cert.Reference3Ideal.Merge
-- ==== Proof.MergeFinal.lean ====
module

public import proofs.«01_k».proof.Proof.MergePay
public import proofs.«01_k».proof.Proof.MergeIdx
public import proofs.«01_k».proof.Proof.MergeRef

@[expose] public section

set_option maxRecDepth 16384

noncomputable section

namespace Cert.Kernel3Ideal.Merge

open Idealize.ShloMosaic Idealize.ShloMosaic.TcCoe Idealize.SL.Sem Idealize.ShloMosaic.Tactic
open Cert.Kernel3Ideal Cert.Kernel3Ideal.Gen Cert.Kernel3Ideal.Value
open Cert.MergeRow
open Idealize.ShloMosaic.StableHlo (launchContents)
open Cert.Reference3Ideal.Merge (rOf rOb rP rFo rX rM rN rW4 rWd rWo rG rB rR rX1 rH2)

variable (m : (ℓ : Loc nD τ sig) → Buf (Elt Ideal) ℓ) (c : Dev nD)

/-- The batch row of a point. -/
def bOf (t : Fin cfg0.N) : Fin 8 := ⟨t.val / 8, by have ht : t.val < 64 := lt_of_lt_of_eq t.isLt Gen.N_0; omega⟩
/-- The token of a row of a point's block. -/
def jOf (t : Fin cfg0.N) (r : Fin 512) : Fin 4096 := ⟨t.val % 8 * 512 + r, by omega⟩

/-- A token's rows of the two directions added. -/
abbrev kO (b : Fin 8) (j : Fin 4096) (e : Fin 1024) : EReal := aOf m c (ix3 b j e) + aOb m c (ix3 b j e)
/-- A token's output gate. -/
abbrev kZ (b : Fin 8) (j : Fin 4096) (e : Fin 1024) : EReal := aP m c (ix3 b ⟨j, by omega⟩ ⟨3072 + e, by omega⟩)
/-- The norm's weights. -/
abbrev kN (d : Fin 128) : EReal := aN m c (ix1 d)
/-- A token's recurrent branch. -/
abbrev kDn (b : Fin 8) (j : Fin 4096) : Fin 1024 → EReal := rowMul (heads (kO m c b j) (kZ m c b j) (kN m c)) (fun i e => aWd m c (ix2 i e))
/-- A token's other branch. -/
abbrev kFour (b : Fin 8) (j : Fin 4096) : Fin 1024 → EReal := rowMul (fun i => aFo m c (ix3 b j i)) (fun i e => aW4 m c (ix2 i e))

/-- The launch's residual sum, of one token. -/
def kR (b : Fin 8) (j : Fin 4096) : Fin 1024 → EReal :=
  resid (kDn m c b j) (kFour m c b j)
    (fun e => aP m c (ix3 b ⟨j, by omega⟩ ⟨4096 + e, by omega⟩)) (fun e => aP m c (ix3 b ⟨j, by omega⟩ ⟨4096 + (1024 + e), by omega⟩))
    (fun e => aX m c (ix3 b j e)) (fun e => aM m c (ix3 b 2 e)) (fun i e => aWo m c (ix2 i e))

/-- The recurrent branch a point computes. -/
def DN (t : Fin cfg0.N) : FVec Ideal S512x1024 .f32 :=
  k0_pay13 (k0_pay1 (iblk m c 0 t) (iblk m c 1 t)) (k0_pay2 (X0_2 m c t))
    (k0_pay3 (iblk m c 0 t) (iblk m c 1 t) (X0_2 m c t) (iblk m c 8 t))
    (k0_pay5 (k0_pay2 (X0_2 m c t)) (k0_pay4 (iblk m c 0 t) (iblk m c 1 t)) (iblk m c 8 t))
    (k0_pay6 (k0_pay1 (iblk m c 0 t) (iblk m c 1 t)) (k0_pay2 (X0_2 m c t)) (iblk m c 8 t))
    (k0_pay8 (k0_pay7 (k0_pay1 (iblk m c 0 t) (iblk m c 1 t)) (k0_pay2 (X0_2 m c t)) (iblk m c 8 t)))
    (k0_pay9 (k0_pay1 (iblk m c 0 t) (iblk m c 1 t)) (k0_pay2 (X0_2 m c t)) (iblk m c 8 t))
    (k0_pay10 (k0_pay1 (iblk m c 0 t) (iblk m c 1 t)) (k0_pay2 (X0_2 m c t)) (iblk m c 8 t))
    (k0_pay11 (k0_pay1 (iblk m c 0 t) (iblk m c 1 t))) (k0_pay12 (k0_pay1 (iblk m c 0 t) (iblk m c 1 t)))
    (FloatOps.ofBits FTy.f32 0x358637BD#32) (iblk m c 8 t) (iblk m c 8 t) (iblk m c 10 t)

/-- The block of the first direction. -/
abbrev B0 (t : Fin cfg0.N) : Vec Ideal S1x512x1024 .bf16 := iblk m c 0 t
/-- The block of the second direction. -/
abbrev B1 (t : Fin cfg0.N) : Vec Ideal S1x512x1024 .bf16 := iblk m c 1 t

theorem DN_at (t : Fin cfg0.N) (r : Fin 512) (e : Fin 1024) : DN m c t (ix2 r e) = kDn m c (bOf t) (jOf t r) e := by
  have ho : ∀ (r : Fin 512) (e : Fin 1024), B0 m c t (ix3 0 r e) + B1 m c t (ix3 0 r e) = kO m c (bOf t) (jOf t r) e :=
    fun r e => congrArg₂ (fun a b : EReal => a + b) (blk0 m c t (bOf t) (jOf t r) r rfl rfl e) (blk1 m c t (bOf t) (jOf t r) r rfl rfl e)
  have hz : ∀ (r : Fin 512) (e : Fin 1024), X0_2 m c t (ix3 0 r e) = kZ m c (bOf t) (jOf t r) e :=
    fun r e => blk2 m c t (bOf t) (jOf t r) r rfl rfl e
  have hn : ∀ d : Fin 128, iblk m c 8 t (ix2 0 d) = kN m c d := blk8 m c t
  have h6 : ∀ (r : Fin 512) (e : Fin 1024), k0_pay1 (iblk m c 0 t) (iblk m c 1 t) (ix2 r e) = kO m c (bOf t) (jOf t r) e :=
    fun r e => (pay1_at _ _ r e).trans (ho r e)
  have h9 : ∀ (r : Fin 512) (e : Fin 1024), k0_pay2 (X0_2 m c t) (ix2 r e) = kZ m c (bOf t) (jOf t r) e :=
    fun r e => (pay2_at _ r e).trans (hz r e)
  unfold DN
  refine (pay13_at (iblk m c 8 t) (fun r => kO m c (bOf t) (jOf t r)) (fun r => kZ m c (bOf t) (jOf t r)) (kN m c) _ _ h6 h9 hn
    (iblk m c 10 t) _ _ _ _ _ _
    (fun r d => pay3_at _ _ _ _ (fun r => kO m c (bOf t) (jOf t r)) (fun r => kZ m c (bOf t) (jOf t r)) (kN m c) ho hz hn r d)
    (fun r d => pay5_at _ _ _ (fun r => kO m c (bOf t) (jOf t r)) (fun r => kZ m c (bOf t) (jOf t r)) (kN m c) _ ho h9 hn r d)
    (fun r d => pay6_at _ (fun r => kO m c (bOf t) (jOf t r)) (fun r => kZ m c (bOf t) (jOf t r)) (kN m c) _ _ h6 h9 hn r d)
    (fun r d => (pay8_at _ r d).trans (pay7_at _ (fun r => kO m c (bOf t) (jOf t r)) (fun r => kZ m c (bOf t) (jOf t r)) (kN m c) _ _ h6 h9 hn r d))
    (fun r d => pay9_at _ (fun r => kO m c (bOf t) (jOf t r)) (fun r => kZ m c (bOf t) (jOf t r)) (kN m c) _ _ h6 h9 hn r d)
    (fun r d => pay10_at _ (fun r => kO m c (bOf t) (jOf t r)) (fun r => kZ m c (bOf t) (jOf t r)) (kN m c) _ _ h6 h9 hn r d)
    r e).trans ?_
  exact congrArg (fun w => rowMul (heads (kO m c (bOf t) (jOf t r)) (kZ m c (bOf t) (jOf t r)) (kN m c)) w e)
    (funext fun i => funext fun e => blk10 m c t i e)

/-- The other branch a point computes. -/
def FOUR (t : Fin cfg0.N) : FVec Ideal S512x1024 .f32 := k0_pay14 (iblk m c 5 t) (iblk m c 9 t)

theorem FOUR_at (t : Fin cfg0.N) (r : Fin 512) (e : Fin 1024) : FOUR m c t (ix2 r e) = kFour m c (bOf t) (jOf t r) e := by
  unfold FOUR
  refine (pay14_at _ _ r e).trans ?_
  exact congrArg₂ (fun f w => rowMul f w e) (funext fun i => blk5 m c t (bOf t) (jOf t r) r rfl rfl i)
    (funext fun i => funext fun e => blk9 m c t i e)

theorem resid_eq (t : Fin cfg0.N) (r : Fin 512) :
    resid (fun e => DN m c t (ix2 r e)) (fun e => FOUR m c t (ix2 r e)) (fun e => X0_3 m c t (ix3 0 r e)) (fun e => X0_4 m c t (ix3 0 r e))
      (fun e => iblk m c 6 t (ix3 0 r e)) (fun e => iblk m c 7 t (ix3 0 2 e)) (fun i e => iblk m c 11 t (ix2 i e))
      = kR m c (bOf t) (jOf t r) := by
  have e1 : (fun e => DN m c t (ix2 r e)) = kDn m c (bOf t) (jOf t r) := funext fun e => DN_at m c t r e
  have e2 : (fun e => FOUR m c t (ix2 r e)) = kFour m c (bOf t) (jOf t r) := funext fun e => FOUR_at m c t r e
  have e3 : (fun e : Fin 1024 => X0_3 m c t (ix3 0 r e)) = fun e : Fin 1024 => aP m c (ix3 (bOf t) ⟨jOf t r, by omega⟩ ⟨4096 + e, by omega⟩) :=
    funext fun e => blk3 m c t (bOf t) (jOf t r) r rfl rfl e
  have e4 : (fun e : Fin 1024 => X0_4 m c t (ix3 0 r e)) = fun e : Fin 1024 => aP m c (ix3 (bOf t) ⟨jOf t r, by omega⟩ ⟨4096 + (1024 + e), by omega⟩) :=
    funext fun e => blk4 m c t (bOf t) (jOf t r) r rfl rfl e
  have e5 : (fun e : Fin 1024 => iblk m c 6 t (ix3 0 r e)) = fun e => aX m c (ix3 (bOf t) (jOf t r) e) :=
    funext fun e => blk6 m c t (bOf t) (jOf t r) r rfl rfl e
  have e6 : (fun e : Fin 1024 => iblk m c 7 t (ix3 0 2 e)) = fun e => aM m c (ix3 (bOf t) 2 e) :=
    funext fun e => blk7 m c t (bOf t) rfl 2 e
  have e7 : (fun i e : Fin 1024 => iblk m c 11 t (ix2 i e)) = fun i e => aWo m c (ix2 i e) :=
    funext fun i => funext fun e => blk11 m c t i e
  unfold kR
  rw [e1, e2, e3, e4, e5, e6, e7]

/-- The centred residual sum a point computes. -/
def CENT (t : Fin cfg0.N) : FVec Ideal S512x1024 .f32 :=
  k0_pay16 (DN m c t) (FOUR m c t) (X0_3 m c t) (X0_4 m c t) (iblk m c 11 t) (iblk m c 7 t) (iblk m c 6 t)
/-- The normalising factor a point computes. -/
def SCALE (t : Fin cfg0.N) : FVec Ideal S512x1024 .f32 :=
  k0_pay17 (DN m c t) (FOUR m c t) (X0_3 m c t) (X0_4 m c t) (iblk m c 11 t) (iblk m c 7 t) (iblk m c 6 t)

theorem CENT_at (t : Fin cfg0.N) (r : Fin 512) (e : Fin 1024) : CENT m c t (ix2 r e) = cent (kR m c (bOf t) (jOf t r)) e := by
  unfold CENT
  exact (pay16_at _ _ _ _ _ _ _ r e).trans (congrArg (fun f => cent f e) (resid_eq m c t r))

theorem SCALE_at (t : Fin cfg0.N) (r : Fin 512) (e : Fin 1024) : SCALE m c t (ix2 r e) = scale (cent (kR m c (bOf t) (jOf t r))) := by
  unfold SCALE
  exact (pay17_at _ _ _ _ _ _ _ r e).trans (congrArg (fun f => scale (cent f)) (resid_eq m c t r))

/-- The launch's first result, of one token. -/
def kX1 (b : Fin 8) (j : Fin 4096) : Fin 1024 → EReal := postn (kR m c b j) (fun e => aG m c (ix2 0 e)) (fun e => aB m c (ix2 0 e))
/-- The launch's modulated row, of one token. -/
def kH2 (b : Fin 8) (j : Fin 4096) : Fin 1024 → EReal := modul (kX1 m c b j) (fun e => aM m c (ix3 b 4 e)) (fun e => aM m c (ix3 b 3 e))

theorem kX1_eq (t : Fin cfg0.N) (r : Fin 512) :
    postn (kR m c (bOf t) (jOf t r)) (fun e => iblk m c 12 t (ix2 0 e)) (fun e => iblk m c 13 t (ix2 0 e)) = kX1 m c (bOf t) (jOf t r) := by
  unfold kX1
  exact congrArg₂ (postn _) (funext fun e => blk12 m c t e) (funext fun e => blk13 m c t e)

theorem kH2_eq (t : Fin cfg0.N) (r : Fin 512) :
    modul (postn (kR m c (bOf t) (jOf t r)) (fun e => iblk m c 12 t (ix2 0 e)) (fun e => iblk m c 13 t (ix2 0 e)))
      (fun e => iblk m c 7 t (ix3 0 4 e)) (fun e => iblk m c 7 t (ix3 0 3 e)) = kH2 m c (bOf t) (jOf t r) := by
  unfold kH2
  rw [kX1_eq]
  exact congrArg₂ (modul _) (funext fun e => blk7 m c t (bOf t) rfl 4 e) (funext fun e => blk7 m c t (bOf t) rfl 3 e)

/-- What a point leaves in the first output's block. -/
theorem out14_eq (t : Fin cfg0.N) : (outsAt0 m c t).1 = k0_pay19 (CENT m c t) (SCALE m c t) (iblk m c 12 t) (iblk m c 13 t) := by
  funext y
  unfold outsAt0
  frame_out
  rfl

/-- What a point leaves in the second output's block. -/
theorem out15_eq (t : Fin cfg0.N) :
    (outsAt0 m c t).2.1 = k0_pay21 (k0_pay15 (iblk m c 7 t)) (CENT m c t) (SCALE m c t) (iblk m c 12 t) (iblk m c 13 t) := by
  funext y
  unfold outsAt0
  frame_out
  rfl

/-- What a point leaves in the third output's block. -/
theorem out16_eq (t : Fin cfg0.N) :
    (outsAt0 m c t).2.2 = k0_pay22 (k0_pay15 (iblk m c 7 t)) (CENT m c t) (SCALE m c t) (iblk m c 12 t) (iblk m c 13 t) := by
  funext y
  unfold outsAt0
  frame_out
  rfl

theorem row14 (t : Fin cfg0.N) (r : Fin 512) (e : Fin 1024) : (outsAt0 m c t).1 (ix3 0 r e) = kX1 m c (bOf t) (jOf t r) e :=
  (congrFun (out14_eq m c t) _).trans ((pay19_at _ _ _ _ (fun r => kR m c (bOf t) (jOf t r)) (CENT_at m c t) (SCALE_at m c t) r e).trans
    (congrFun (kX1_eq m c t r) e))

theorem row15 (t : Fin cfg0.N) (r : Fin 512) (e : Fin 1024) : (outsAt0 m c t).2.1 (ix3 0 r e) = kH2 m c (bOf t) (jOf t r) e :=
  (congrFun (out15_eq m c t) _).trans ((pay21_at _ _ _ _ (fun r => kR m c (bOf t) (jOf t r)) (CENT_at m c t) (SCALE_at m c t) _ r e).trans
    (congrFun (kH2_eq m c t r) e))

theorem row16 (t : Fin cfg0.N) (r : Fin 512) (e : Fin 1024) : (outsAt0 m c t).2.2 (ix2 e r) = kH2 m c (bOf t) (jOf t r) e :=
  (congrFun (out16_eq m c t) _).trans ((pay22_at _ _ _ _ (fun r => kR m c (bOf t) (jOf t r)) (CENT_at m c t) (SCALE_at m c t) _ r e).trans
    (congrFun (kH2_eq m c t r) e))

/-! ## The arrays after the launch -/

variable (m' : (ℓ : Loc Cert.Reference3Ideal.nD Cert.Reference3Ideal.τ Cert.Reference3Ideal.sig) → Buf (Elt Ideal) ℓ)

/-- The two programs are given the same arrays. -/
structure Same : Prop where
  h0 : m' ((c.tc : Thread Cert.Reference3Ideal.nD Cert.Reference3Ideal.τ).loc Cert.Reference3Ideal.main_arg0) = aOf m c
  h1 : m' ((c.tc : Thread Cert.Reference3Ideal.nD Cert.Reference3Ideal.τ).loc Cert.Reference3Ideal.main_arg1) = aOb m c
  h2 : m' ((c.tc : Thread Cert.Reference3Ideal.nD Cert.Reference3Ideal.τ).loc Cert.Reference3Ideal.main_arg2) = aP m c
  h3 : m' ((c.tc : Thread Cert.Reference3Ideal.nD Cert.Reference3Ideal.τ).loc Cert.Reference3Ideal.main_arg3) = aFo m c
  h4 : m' ((c.tc : Thread Cert.Reference3Ideal.nD Cert.Reference3Ideal.τ).loc Cert.Reference3Ideal.main_arg4) = aX m c
  h5 : m' ((c.tc : Thread Cert.Reference3Ideal.nD Cert.Reference3Ideal.τ).loc Cert.Reference3Ideal.main_arg5) = aM m c
  h6 : m' ((c.tc : Thread Cert.Reference3Ideal.nD Cert.Reference3Ideal.τ).loc Cert.Reference3Ideal.main_arg6) = aN m c
  h7 : m' ((c.tc : Thread Cert.Reference3Ideal.nD Cert.Reference3Ideal.τ).loc Cert.Reference3Ideal.main_arg7) = aW4 m c
  h8 : m' ((c.tc : Thread Cert.Reference3Ideal.nD Cert.Reference3Ideal.τ).loc Cert.Reference3Ideal.main_arg8) = aWd m c
  h9 : m' ((c.tc : Thread Cert.Reference3Ideal.nD Cert.Reference3Ideal.τ).loc Cert.Reference3Ideal.main_arg9) = aWo m c
  h10 : m' ((c.tc : Thread Cert.Reference3Ideal.nD Cert.Reference3Ideal.τ).loc Cert.Reference3Ideal.main_arg10) = aG m c
  h11 : m' ((c.tc : Thread Cert.Reference3Ideal.nD Cert.Reference3Ideal.τ).loc Cert.Reference3Ideal.main_arg11) = aB m c

variable (H : Same m c m')

include H in
theorem kR_eq (b : Fin 8) (j : Fin 4096) : kR m c b j = rR (launchContents m' c) b j := by
  unfold kR rR kDn kFour kO kZ kN
  rw [← H.h0, ← H.h1, ← H.h2, ← H.h3, ← H.h4, ← H.h5, ← H.h6, ← H.h7, ← H.h8, ← H.h9]

include H in
theorem kX1_ref (b : Fin 8) (j : Fin 4096) : kX1 m c b j = rX1 (launchContents m' c) b j := by
  unfold kX1 rX1
  rw [kR_eq m c m' H, ← H.h10, ← H.h11]

include H in
theorem kH2_ref (b : Fin 8) (j : Fin 4096) : kH2 m c b j = rH2 (launchContents m' c) b j := by
  unfold kH2 rH2
  rw [kX1_ref m c m' H, ← H.h5]

theorem idx14 : ∀ t : Fin cfg0.N, win0_14.index t = ![t.val / 8, t.val % 8, 0] :=
  (by decide +kernel : ∀ t : Fin grid0.N, win0_14.index t = ![t.val / 8, t.val % 8, 0])
theorem idx15 : ∀ t : Fin cfg0.N, win0_15.index t = ![t.val / 8, t.val % 8, 0] :=
  (by decide +kernel : ∀ t : Fin grid0.N, win0_15.index t = ![t.val / 8, t.val % 8, 0])
theorem idx16 : ∀ t : Fin cfg0.N, win0_16.index t = ![0, t.val] :=
  (by decide +kernel : ∀ t : Fin grid0.N, win0_16.index t = ![0, t.val])

open Cert.Reference3Ideal.Value (res_main_v78)
open Cert.Reference3Ideal.Merge (res2 res3)

include H in
/-- The first output array after the launch is the reference's first result. -/
theorem final14 : (dats m 0 c).arrAt 14 (cfgs 0).N = res_main_v78 (launchContents m' c) := by
  refine (dats m 0 c).arrAt_eq_of_covers 14 _ (by decide +kernel) fun t hf y => ?_
  have ht : t.val < 64 := lt_of_lt_of_eq t.isLt Gen.N_0
  blk_simp
  rw [after0_14]
  have y0 : (y 0).val < 1 := (y 0).isLt
  have y1 : (y 1).val < 512 := (y 1).isLt
  have y2 : (y 2).val < 1024 := (y 2).isLt
  obtain ⟨r, hr⟩ : ∃ r : Fin 512, (r : ℕ) = (y 1).val := ⟨⟨(y 1).val, y1⟩, rfl⟩
  obtain ⟨e, he⟩ : ∃ e : Fin 1024, (e : ℕ) = (y 2).val := ⟨⟨(y 2).val, y2⟩, rfl⟩
  have hy : y = ix3 0 r e := by
    blk_ext
  have hemb : (win0_14.blk t).view.emb y = ix3 (bOf t) (jOf t r) e := by
    unfold bOf jOf
    blk_ext [idx14 t]
  refine Eq.trans ?_ ((congrArg (res_main_v78 (launchContents m' c)) hemb).trans (Cert.Reference3Ideal.Merge.v78_at (launchContents m' c) (bOf t) (jOf t r) e)).symm
  refine (congrArg (outsAt0 m c t).1 hy).trans ((row14 m c t r e).trans (congrFun (kX1_ref m c m' H _ _) e))

include H in
/-- The second output array after the launch is the reference's second result. -/
theorem final15 : (dats m 0 c).arrAt 15 (cfgs 0).N = res2 (launchContents m' c) := by
  refine (dats m 0 c).arrAt_eq_of_covers 15 _ (by decide +kernel) fun t hf y => ?_
  have ht : t.val < 64 := lt_of_lt_of_eq t.isLt Gen.N_0
  blk_simp
  rw [after0_15]
  have y0 : (y 0).val < 1 := (y 0).isLt
  have y1 : (y 1).val < 512 := (y 1).isLt
  have y2 : (y 2).val < 1024 := (y 2).isLt
  obtain ⟨r, hr⟩ : ∃ r : Fin 512, (r : ℕ) = (y 1).val := ⟨⟨(y 1).val, y1⟩, rfl⟩
  obtain ⟨e, he⟩ : ∃ e : Fin 1024, (e : ℕ) = (y 2).val := ⟨⟨(y 2).val, y2⟩, rfl⟩
  have hy : y = ix3 0 r e := by
    blk_ext
  have hemb : (win0_15.blk t).view.emb y = ix3 (bOf t) (jOf t r) e := by
    unfold bOf jOf
    blk_ext [idx15 t]
  refine Eq.trans ?_ ((congrArg (res2 (launchContents m' c)) hemb).trans (Cert.Reference3Ideal.Merge.res2_at (launchContents m' c) (bOf t) (jOf t r) e)).symm
  refine (congrArg (outsAt0 m c t).2.1 hy).trans ((row15 m c t r e).trans (congrFun (kH2_ref m c m' H _ _) e))

include H in
/-- The third output array after the launch is the reference's third result. -/
theorem final16 : (dats m 0 c).arrAt 16 (cfgs 0).N = res3 (launchContents m' c) := by
  refine (dats m 0 c).arrAt_eq_of_covers 16 _ (by decide +kernel) fun t hf y => ?_
  have ht : t.val < 64 := lt_of_lt_of_eq t.isLt Gen.N_0
  blk_simp
  rw [after0_16]
  have y0 : (y 0).val < 1024 := (y 0).isLt
  have y1 : (y 1).val < 512 := (y 1).isLt
  obtain ⟨r, hr⟩ : ∃ r : Fin 512, (r : ℕ) = (y 1).val := ⟨⟨(y 1).val, y1⟩, rfl⟩
  obtain ⟨e, he⟩ : ∃ e : Fin 1024, (e : ℕ) = (y 0).val := ⟨⟨(y 0).val, y0⟩, rfl⟩
  obtain ⟨n, hn⟩ : ∃ n : Fin 32768, (n : ℕ) = t.val * 512 + r.val := ⟨⟨t.val * 512 + r.val, by omega⟩, rfl⟩
  have hy : y = ix2 e r := by
    blk_ext
  have hemb : (win0_16.blk t).view.emb y = ix2 e n := by
    blk_ext [idx16 t]
  refine Eq.trans ?_ ((congrArg (res3 (launchContents m' c)) hemb).trans (Cert.Reference3Ideal.Merge.res3_at (launchContents m' c) (bOf t) (jOf t r) e n
    (by show n.val = t.val / 8 * 4096 + (t.val % 8 * 512 + r.val); omega))).symm
  refine (congrArg (outsAt0 m c t).2.2 hy).trans ((row16 m c t r e).trans (congrFun (kH2_ref m c m' H _ _) e))

end Cert.Kernel3Ideal.Merge
-- ==== Proof.Merge.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.MergeFinal
public import Idealize.ShloMosaic.Lib.Quiescent

@[expose] public section

noncomputable section

namespace Cert.Proof

open Idealize.ShloMosaic Idealize.ShloMosaic.TcCoe Idealize.SL.Sem

/-- The merge's reference runs, leaves its arguments unchanged and every counter at zero. -/
theorem merge_reference_frame : Cert.quiescent_Reference3Ideal (hReference3Ideal := Cert.Reference3Ideal.Gen.facts) := fun m ρ _ =>
  (θ_run _ _ _).mono (fun r h => ⟨fun c => (h c).2.2.2, sem_eq_zero_of_no_sems (by decide) r.2⟩) (Cert.Reference3Ideal.Value.run m ρ)

/-- The merge's launch and its reference compute the same three arrays over the extended reals. -/
theorem merge_value : Cert.algebraic_Kernel3Ideal_Reference3Ideal (hKernel3Ideal := Cert.Kernel3Ideal.Gen.facts)
    (hReference3Ideal := Cert.Reference3Ideal.Gen.facts) := by
  intro m g m' g' _ hag
  have H : ∀ c, Cert.Kernel3Ideal.Merge.Same m c m' := fun c => by
    obtain ⟨h0, h1, h2, h3, h4, h5, h6, h7, h8, h9, h10, h11⟩ := hag c
    exact ⟨h0, h1, h2, h3, h4, h5, h6, h7, h8, h9, h10, h11⟩
  refine ⟨fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N, Cert.Kernel3Ideal.Value.run_blocks m g, ?_⟩
  refine (θ_run _ _ _).mono (fun r h c => ?_) (Cert.Reference3Ideal.Value.run m' g')
  exact ⟨(h c).1.trans (Cert.Kernel3Ideal.Merge.final14 m c m' (H c)).symm, (h c).2.1.trans (Cert.Kernel3Ideal.Merge.final15 m c m' (H c)).symm,
    (h c).2.2.1.trans (Cert.Kernel3Ideal.Merge.final16 m c m' (H c)).symm, (h c).2.2.2⟩

end Cert.Proof

end
-- ==== Proof.Ada.lean ====
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

namespace Cert.Ada

open Idealize.ShloMosaic

/-- One row of the modulation: the row with its sigmoid, times the weights, plus the offset. -/
def modRow (x : Fin 1024 → EReal) (w : Fin 1024 → Fin 6144 → EReal) (b : Fin 6144 → EReal) (e : Fin 6144) : EReal :=
  (∑ i : Fin 1024, x i * Ideal.logistic (x i) * w i e) + b e

end Cert.Ada

namespace Cert.Reference4Ideal.Ada

open Idealize.ShloMosaic Idealize.ShloMosaic.TcCoe Idealize.SL.Sem Idealize.ShloMosaic.Tactic
open Cert.Reference4Ideal Cert.Reference4Ideal.Gen Cert.Reference4Ideal.Value
open Cert.Ada

/-- The reference's result. -/
def res (x : FVec Ideal S16x1024 .f32) (w : FVec Ideal S1024x6144 .f32) (b : FVec Ideal S6144 .f32) : FVec Ideal S16x6144 .f32 :=
  addf (Host.dotGeneral dot_S16x1024_S1024x6144_S16x6144_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))) w) (broadcastInDim S16x6144 ![0, 1] bcast_S1x6144_S16x6144_0_1 (broadcastInDim S1x6144 ![1] bcast_S6144_S1x6144_1 b))

/-- The reference's result at an entry. -/
theorem res_at (x : FVec Ideal S16x1024 .f32) (w : FVec Ideal S1024x6144 .f32) (b : FVec Ideal S6144 .f32) (r : Fin 16) (e : Fin 6144) :
    res x w b (ix2 r e) = modRow (fun i => x (ix2 r i)) (fun i e => w (ix2 i e)) (fun e => b (ix1 e)) e := by
  unfold res modRow Ideal.logistic
  pointwise

end Cert.Reference4Ideal.Ada

namespace Cert.Kernel4Ideal.Ada

open Idealize.ShloMosaic Idealize.ShloMosaic.TcCoe Idealize.SL.Sem Idealize.ShloMosaic.Tactic
open Idealize.ShloMosaic.StableHlo
open Cert.Kernel4Ideal Cert.Kernel4Ideal.Gen Cert.Kernel4Ideal.Value
open Cert.Ada

variable (m : (ℓ : Loc nD τ sig) → Buf (Elt Ideal) ℓ) (c : Dev nD)

/-- The arrays the program takes. -/
abbrev aX : FVec Ideal S16x1024 .f32 := m ((c.tc : Thread nD τ).loc main_arg0)
/-- The arrays the program takes. -/
abbrev aW : FVec Ideal S1024x6144 .f32 := m ((c.tc : Thread nD τ).loc main_arg1)
/-- The arrays the program takes. -/
abbrev aB : FVec Ideal S6144 .f32 := m ((c.tc : Thread nD τ).loc main_arg2)

theorem idx0 : ∀ t : Fin cfg0.N, win0_0.index t = ![0, 0] :=
  (by decide +kernel : ∀ t : Fin grid0.N, win0_0.index t = ![0, 0])
/-- The rows' block, read at an entry: the whole array. -/
theorem blk0 (t : Fin cfg0.N) (r : Fin 16) (i : Fin 1024) : iblk m c 0 t (ix2 r i) = aX m c (ix2 r i) := by
  refine Eq.trans ?_ (congrFun (V_main_arg0 m c) _)
  blk_point [iblk, idx0 t]

theorem idx1 : ∀ t : Fin cfg0.N, win0_1.index t = ![0, t.val] :=
  (by decide +kernel : ∀ t : Fin grid0.N, win0_1.index t = ![0, t.val])
/-- The weights' block, read at an entry: the array at the block's columns. -/
theorem blk1 (t : Fin cfg0.N) (i : Fin 1024) (q : Fin 1536) (e : Fin 6144) (he : (e : ℕ) = t.val * 1536 + q) :
    iblk m c 1 t (ix2 i q) = aW m c (ix2 i e) := by
  refine Eq.trans ?_ (congrFun (V_main_arg1 m c) _)
  blk_point [iblk, idx1 t]

/-- A host value at the launch's entry. -/
theorem V2 (e : Fin 6144) : V m c main_v0 (ix2 0 e) = aB m c (ix1 e) := by
  unfold V hostOps0
  after_reads_at

theorem idx2 : ∀ t : Fin cfg0.N, win0_2.index t = ![0, t.val] :=
  (by decide +kernel : ∀ t : Fin grid0.N, win0_2.index t = ![0, t.val])
/-- The offset's block, read at an entry: the array at the block's columns. -/
theorem blk2 (t : Fin cfg0.N) (q : Fin 1536) (e : Fin 6144) (he : (e : ℕ) = t.val * 1536 + q) :
    iblk m c 2 t (ix2 0 q) = aB m c (ix1 e) := by
  refine Eq.trans ?_ (V2 m c e)
  blk_point [iblk, idx2 t]

/-- What a point computes, at an entry. -/
theorem pay_at (x : Vec Ideal S16x1024 .f32) (w : Vec Ideal S1024x1536 .f32) (b : Vec Ideal S1x1536 .f32) (r : Fin 16) (q : Fin 1536) :
    k0_pay1 x w b (ix2 r q)
      = (∑ i : Fin 1024, x (ix2 r i) * Ideal.logistic (x (ix2 r i)) * w (ix2 i q)) + b (ix2 0 q) := by
  unfold k0_pay1
  pointwise

/-- What a point leaves in the output's block. -/
theorem out_eq (t : Fin cfg0.N) : out0_3 (iblk m c 0 t) (iblk m c 1 t) (iblk m c 2 t) = k0_pay1 (iblk m c 0 t) (iblk m c 1 t) (iblk m c 2 t) := by
  funext y
  frame_out

/-- What a point leaves in the output's block, at an entry. -/
theorem row_at (t : Fin cfg0.N) (r : Fin 16) (q : Fin 1536) (e : Fin 6144) (he : (e : ℕ) = t.val * 1536 + q) :
    out0_3 (iblk m c 0 t) (iblk m c 1 t) (iblk m c 2 t) (ix2 r q)
      = modRow (fun i => aX m c (ix2 r i)) (fun i e => aW m c (ix2 i e)) (fun e => aB m c (ix1 e)) e := by
  refine (congrFun (out_eq m c t) _).trans ((pay_at _ _ _ r q).trans ?_)
  unfold modRow
  refine congrArg₂ (fun a b : EReal => a + b) (Finset.sum_congr rfl fun i _ => ?_) (blk2 m c t q e he)
  rw [blk0 m c t r i, blk1 m c t i q e he]

theorem idx3 : ∀ t : Fin cfg0.N, win0_3.index t = ![0, t.val] :=
  (by decide +kernel : ∀ t : Fin grid0.N, win0_3.index t = ![0, t.val])

/-- The output array after the launch is the reference's result. -/
theorem final3 : (dats m 0 c).arrAt 3 (cfgs 0).N = Cert.Reference4Ideal.Ada.res (aX m c) (aW m c) (aB m c) := by
  refine (dats m 0 c).arrAt_eq_of_covers 3 _ (by decide +kernel) fun t hf y => ?_
  have ht : t.val < 4 := lt_of_lt_of_eq t.isLt Gen.N_0
  blk_simp
  rw [after0_3]
  have y0 : (y 0).val < 16 := (y 0).isLt
  have y1 : (y 1).val < 1536 := (y 1).isLt
  obtain ⟨r, hr⟩ : ∃ r : Fin 16, (r : ℕ) = (y 0).val := ⟨⟨(y 0).val, y0⟩, rfl⟩
  obtain ⟨q, hq⟩ : ∃ q : Fin 1536, (q : ℕ) = (y 1).val := ⟨⟨(y 1).val, y1⟩, rfl⟩
  obtain ⟨e, he⟩ : ∃ e : Fin 6144, (e : ℕ) = t.val * 1536 + q.val := ⟨⟨t.val * 1536 + q.val, by omega⟩, rfl⟩
  have hy : y = ix2 r q := by
    blk_ext
  have hemb : (win0_3.blk t).view.emb y = ix2 r e := by
    blk_ext [idx3 t]
  refine Eq.trans ?_ ((congrArg (Cert.Reference4Ideal.Ada.res (aX m c) (aW m c) (aB m c)) hemb).trans
    (Cert.Reference4Ideal.Ada.res_at (aX m c) (aW m c) (aB m c) r e)).symm
  exact (congrArg (out0_3 (iblk m c 0 t) (iblk m c 1 t) (iblk m c 2 t)) hy).trans (row_at m c t r q e he)

end Cert.Kernel4Ideal.Ada

namespace Cert.Proof

open Idealize.ShloMosaic Idealize.ShloMosaic.TcCoe Idealize.SL.Sem

/-- The modulation's reference runs, leaves its arguments unchanged and every counter at zero. -/
theorem ada_reference_frame : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The modulation's launch and its reference compute the same array over the extended reals. -/
theorem ada_value : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 3 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨h0, h1, h2⟩ := hag c
  refine Eq.trans ?_ (Cert.Kernel4Ideal.Ada.final3 m c).symm
  show Cert.Reference4Ideal.Ada.res _ _ _ = _
  exact congr (congrArg₂ Cert.Reference4Ideal.Ada.res h0 h1) h2

end Cert.Proof

end
-- ==== Proof.Dft.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

namespace Cert.Dft

open Idealize.ShloMosaic

/-- One table row applied to the positions, at a channel. -/
def pos (w : Fin 4096 → EReal) (f : Fin 4096 → Fin 512 → EReal) (g : Fin 4) (d : Fin 128) : EReal :=
  ∑ n : Fin 4096, w n * f n ⟨g * 128 + d, by omega⟩

/-- The real part of the transform at one position, one group of channels and one frequency within the group. -/
def freq (cl sl : Fin 4096 → EReal) (f : Fin 4096 → Fin 512 → EReal) (cc sc : Fin 128 → Fin 128 → EReal) (g : Fin 4) (k : Fin 128) : EReal :=
  (∑ d : Fin 128, pos cl f g d * cc d k) - ∑ d : Fin 128, pos sl f g d * sc d k

end Cert.Dft

namespace Cert.Reference5Ideal.Dft

open Idealize.ShloMosaic Idealize.ShloMosaic.TcCoe Idealize.SL.Sem Idealize.ShloMosaic.Tactic
open Cert.Reference5Ideal Cert.Reference5Ideal.Gen Cert.Reference5Ideal.Value
open Cert.Dft

/-- The channels the reference transforms, by groups. -/
def chan (p : FVec Ideal S8x4352x6656 .bf16) : FVec Ideal S8x4096x4x128 .f32 :=
  shapeCast _ (extf .f32 (extractStridedSlice S8x4096x512 ![0, 0, 6144] p slices_S8x4352x6656_S8x4096x512_0_0_6144) bitsLt_bf16_f32) shapeCasts_S8x4096x512_S8x4096x4x128

theorem chan_at (p : FVec Ideal S8x4352x6656 .bf16) (b : Fin 8) (n : Fin 4096) (g : Fin 4) (d : Fin 128) :
    chan p (ix4 b n g d) = p (ix3 b ⟨n, by omega⟩ ⟨6144 + (g * 128 + d), by omega⟩) := by
  unfold chan
  pointwise

/-- A table applied to the positions. -/
def along (w : FVec Ideal S4096x4096 .bf16) (p : FVec Ideal S8x4352x6656 .bf16) : FVec Ideal S8x4096x4x128 .f32 :=
  transpose S8x4096x4x128 [0, 3, 1, 2] (Host.dotGeneral dot_S8x4096x4x128_S4096x4096_S8x4x128x4096_1_1_023_0_n_n none (chan p) (extf .f32 w bitsLt_bf16_f32)) transposes_S8x4x128x4096_S8x4096x4x128_0_3_1_2

theorem along_at (w : FVec Ideal S4096x4096 .bf16) (p : FVec Ideal S8x4352x6656 .bf16) (b : Fin 8) (l : Fin 4096) (g : Fin 4) (d : Fin 128) :
    along w p (ix4 b l g d) = pos (fun n => w (ix2 l n)) (fun n e => p (ix3 b ⟨n, by omega⟩ ⟨6144 + e, by omega⟩)) g d := by
  unfold along pos
  pointwise [chan_at]
  exact Finset.sum_congr rfl fun n _ => mul_comm _ _

/-- The reference's result. -/
def res (cl sl : FVec Ideal S4096x4096 .bf16) (p : FVec Ideal S8x4352x6656 .bf16) (cc sc : FVec Ideal S128x128 .bf16) : FVec Ideal S8x4096x512 .bf16 :=
  truncf .bf16 (shapeCast _ (subf (Host.dotGeneral dot_S8x4096x4x128_S128x128_S8x4096x4x128_3_0_012_1_n_n none (along cl p) (extf .f32 cc bitsLt_bf16_f32))
    (Host.dotGeneral dot_S8x4096x4x128_S128x128_S8x4096x4x128_3_0_012_1_n_n none (along sl p) (extf .f32 sc bitsLt_bf16_f32))) shapeCasts_S8x4096x4x128_S8x4096x512) bitsLt_bf16_f32

theorem res_point (cl sl : FVec Ideal S4096x4096 .bf16) (p : FVec Ideal S8x4352x6656 .bf16) (cc sc : FVec Ideal S128x128 .bf16)
    (b : Fin 8) (l : Fin 4096) (g : Fin 4) (k : Fin 128) :
    res cl sl p cc sc (ix3 b l ⟨g * 128 + k, by omega⟩)
      = freq (fun n => cl (ix2 l n)) (fun n => sl (ix2 l n)) (fun n e => p (ix3 b ⟨n, by omega⟩ ⟨6144 + e, by omega⟩))
          (fun d k => cc (ix2 d k)) (fun d k => sc (ix2 d k)) g k := by
  unfold res freq
  pointwise [along_at]

/-- The reference's result at an entry, by its column's value. -/
theorem res_at (cl sl : FVec Ideal S4096x4096 .bf16) (p : FVec Ideal S8x4352x6656 .bf16) (cc sc : FVec Ideal S128x128 .bf16)
    (b : Fin 8) (l : Fin 4096) (g : Fin 4) (k : Fin 128) (e : Fin 512) (he : (e : ℕ) = g * 128 + k) :
    res cl sl p cc sc (ix3 b l e)
      = freq (fun n => cl (ix2 l n)) (fun n => sl (ix2 l n)) (fun n e => p (ix3 b ⟨n, by omega⟩ ⟨6144 + e, by omega⟩))
          (fun d k => cc (ix2 d k)) (fun d k => sc (ix2 d k)) g k :=
  (congrArg (fun e : Fin 512 => res cl sl p cc sc (ix3 b l e)) (Fin.ext he)).trans (res_point cl sl p cc sc b l g k)

end Cert.Reference5Ideal.Dft

namespace Cert.Kernel5Ideal.Dft

open Idealize.ShloMosaic Idealize.ShloMosaic.TcCoe Idealize.SL.Sem Idealize.ShloMosaic.Tactic
open Idealize.ShloMosaic.StableHlo
open Cert.Kernel5Ideal Cert.Kernel5Ideal.Gen Cert.Kernel5Ideal.Value
open Cert.Dft

variable (m : (ℓ : Loc nD τ sig) → Buf (Elt Ideal) ℓ) (c : Dev nD)

/-- The arrays the program takes. -/
abbrev aCl : FVec Ideal S4096x4096 .bf16 := m ((c.tc : Thread nD τ).loc main_arg0)
/-- The arrays the program takes. -/
abbrev aSl : FVec Ideal S4096x4096 .bf16 := m ((c.tc : Thread nD τ).loc main_arg1)
/-- The arrays the program takes. -/
abbrev aP : FVec Ideal S8x4352x6656 .bf16 := m ((c.tc : Thread nD τ).loc main_arg2)
/-- The arrays the program takes. -/
abbrev aCc : FVec Ideal S128x128 .bf16 := m ((c.tc : Thread nD τ).loc main_arg3)
/-- The arrays the program takes. -/
abbrev aSc : FVec Ideal S128x128 .bf16 := m ((c.tc : Thread nD τ).loc main_arg4)

theorem idx0 : ∀ t : Fin cfg0.N, win0_0.index t = ![t.val / 8, 0] :=
  (by decide +kernel : ∀ t : Fin grid0.N, win0_0.index t = ![t.val / 8, 0])
/-- A block of the positions' cosines, read at an entry: the array at the block's rows. -/
theorem blk0 (t : Fin cfg0.N) (r : Fin 512) (l : Fin 4096) (hl : (l : ℕ) = t.val / 8 * 512 + r) (n : Fin 4096) :
    iblk m c 0 t (ix2 r n) = aCl m c (ix2 l n) := by
  blk_point [iblk, V, idx0 t]

theorem idx1 : ∀ t : Fin cfg0.N, win0_1.index t = ![t.val / 8, 0] :=
  (by decide +kernel : ∀ t : Fin grid0.N, win0_1.index t = ![t.val / 8, 0])
/-- A block of the positions' sines, read at an entry: the array at the block's rows. -/
theorem blk1 (t : Fin cfg0.N) (r : Fin 512) (l : Fin 4096) (hl : (l : ℕ) = t.val / 8 * 512 + r) (n : Fin 4096) :
    iblk m c 1 t (ix2 r n) = aSl m c (ix2 l n) := by
  blk_point [iblk, V, idx1 t]

theorem idx2 : ∀ t : Fin cfg0.N, win0_2.index t = ![t.val % 8, 0, 12] :=
  (by decide +kernel : ∀ t : Fin grid0.N, win0_2.index t = ![t.val % 8, 0, 12])
/-- The block of the channels, read at an entry: the projections of one batch row's latent tokens, from column 6144. -/
theorem blk2 (t : Fin cfg0.N) (b : Fin 8) (hb : (b : ℕ) = t.val % 8) (n : Fin 4096) (e : Fin 512) :
    X0_2 m c t (ix3 0 n e) = aP m c (ix3 b ⟨n, by omega⟩ ⟨6144 + e, by omega⟩) := by
  unfold X0_2 Pipeline.Window.fill
  rw [dif_pos (moved0_2 t _)]
  blk_point [iblk, V, idx2 t]

theorem idx3 : ∀ t : Fin cfg0.N, win0_3.index t = ![0, 0] :=
  (by decide +kernel : ∀ t : Fin grid0.N, win0_3.index t = ![0, 0])
/-- A block that is a whole array, read at an entry. -/
theorem blk3 (t : Fin cfg0.N) (d k : Fin 128) : iblk m c 3 t (ix2 d k) = aCc m c (ix2 d k) := by
  blk_point [iblk, V, idx3 t]

theorem idx4 : ∀ t : Fin cfg0.N, win0_4.index t = ![0, 0] :=
  (by decide +kernel : ∀ t : Fin grid0.N, win0_4.index t = ![0, 0])
/-- A block that is a whole array, read at an entry. -/
theorem blk4 (t : Fin cfg0.N) (d k : Fin 128) : iblk m c 4 t (ix2 d k) = aSc m c (ix2 d k) := by
  blk_point [iblk, V, idx4 t]

/-! ## What a point computes -/

section
variable (f : Vec Ideal S1x4096x512 .bf16) (cl sl : Vec Ideal S512x4096 .bf16) (cc sc : Vec Ideal S128x128 .bf16)

theorem pay4_at (r e : Fin 512) : k0_pay4 f cl (ix2 r e) = ∑ n : Fin 4096, cl (ix2 r n) * f (ix3 0 n e) := by
  unfold k0_pay4 k0_pay3
  pointwise

theorem pay5_at (r e : Fin 512) : k0_pay5 f sl (ix2 r e) = ∑ n : Fin 4096, sl (ix2 r n) * f (ix3 0 n e) := by
  unfold k0_pay5 k0_pay3
  pointwise

/-- One entry of a point's output block, from the point's blocks. -/
def ent (r : Fin 512) (g : Fin 4) (k : Fin 128) : EReal :=
  freq (fun n => cl (ix2 r n)) (fun n => sl (ix2 r n)) (fun n e => f (ix3 0 n e)) (fun d k => cc (ix2 d k)) (fun d k => sc (ix2 d k)) g k

theorem pay6_at (r : Fin 512) (k : Fin 128) : k0_pay6 f cl sl cc sc (ix3 0 r k) = ent f cl sl cc sc r 0 k := by
  unfold k0_pay6 ent freq pos
  pointwise [pay4_at, pay5_at]

theorem pay7_at (r : Fin 512) (k : Fin 128) : k0_pay7 f cl sl cc sc (ix3 0 r k) = ent f cl sl cc sc r 1 k := by
  unfold k0_pay7 ent freq pos
  pointwise [pay4_at, pay5_at]

theorem pay1_at (r : Fin 512) (k : Fin 128) : k0_pay1 (k0_pay4 f cl) (k0_pay5 f sl) cc sc (ix3 0 r k) = ent f cl sl cc sc r 2 k := by
  unfold k0_pay1 ent freq pos
  pointwise [pay4_at, pay5_at]

theorem pay2_at (r : Fin 512) (k : Fin 128) : k0_pay2 (k0_pay4 f cl) (k0_pay5 f sl) cc sc (ix3 0 r k) = ent f cl sl cc sc r 3 k := by
  unfold k0_pay2 ent freq pos
  pointwise [pay4_at, pay5_at]

end

/-- What a point leaves in the output's block, at an entry. -/
theorem row_at (t : Fin cfg0.N) (y : S1x512x512.Idx) :
    outsAt0 m c t y = ent (X0_2 m c t) (iblk m c 0 t) (iblk m c 1 t) (iblk m c 3 t) (iblk m c 4 t)
      ⟨(y 1).val, (y 1).isLt⟩ ⟨(y 2).val / 128, by have h2 : (y 2).val < 512 := (y 2).isLt; omega⟩ ⟨(y 2).val % 128, by omega⟩ := by
  unfold outsAt0
  frame_out
  canon_tiles x hh
  all_goals
    obtain ⟨r, hr⟩ : ∃ r : Fin 512, (r : ℕ) = (x 1).val := ⟨⟨(x 1).val, x1_lt⟩, rfl⟩
    obtain ⟨k, hk⟩ : ∃ k : Fin 128, (k : ℕ) = (x 2).val := ⟨⟨(x 2).val, x2_lt⟩, rfl⟩
    have hx : x = ix3 0 r k := by
      blk_ext
    subst hx
  · refine (pay2_at _ _ _ _ _ r k).trans (congr (congrArg₂ (ent _ _ _ _ _) (Fin.ext ?_) (Fin.ext ?_)) (Fin.ext ?_))
    · exact hh1.symm
    · show 3 = (y 2).val / 128
      omega
    · show k.val = (y 2).val % 128
      omega
  · refine (pay1_at _ _ _ _ _ r k).trans (congr (congrArg₂ (ent _ _ _ _ _) (Fin.ext ?_) (Fin.ext ?_)) (Fin.ext ?_))
    · exact hh1.symm
    · show 2 = (y 2).val / 128
      omega
    · show k.val = (y 2).val % 128
      omega
  · refine (pay7_at _ _ _ _ _ r k).trans (congr (congrArg₂ (ent _ _ _ _ _) (Fin.ext ?_) (Fin.ext ?_)) (Fin.ext ?_))
    · exact hh1.symm
    · show 1 = (y 2).val / 128
      omega
    · show k.val = (y 2).val % 128
      omega
  · refine (pay6_at _ _ _ _ _ r k).trans (congr (congrArg₂ (ent _ _ _ _ _) (Fin.ext ?_) (Fin.ext ?_)) (Fin.ext ?_))
    · exact hh1.symm
    · show 0 = (y 2).val / 128
      omega
    · show k.val = (y 2).val % 128
      omega

theorem idx5 : ∀ t : Fin cfg0.N, win0_5.index t = ![t.val % 8, t.val / 8, 0] :=
  (by decide +kernel : ∀ t : Fin grid0.N, win0_5.index t = ![t.val % 8, t.val / 8, 0])

/-- A point's entry, from the program's arrays. -/
theorem ent_eq (t : Fin cfg0.N) (b : Fin 8) (hb : (b : ℕ) = t.val % 8) (r : Fin 512) (l : Fin 4096) (hl : (l : ℕ) = t.val / 8 * 512 + r)
    (g : Fin 4) (k : Fin 128) :
    ent (X0_2 m c t) (iblk m c 0 t) (iblk m c 1 t) (iblk m c 3 t) (iblk m c 4 t) r g k
      = freq (fun n => aCl m c (ix2 l n)) (fun n => aSl m c (ix2 l n)) (fun n e => aP m c (ix3 b ⟨n, by omega⟩ ⟨6144 + e, by omega⟩))
          (fun d k => aCc m c (ix2 d k)) (fun d k => aSc m c (ix2 d k)) g k := by
  unfold ent
  rw [show (fun n => iblk m c 0 t (ix2 r n)) = fun n => aCl m c (ix2 l n) from funext fun n => blk0 m c t r l hl n,
    show (fun n => iblk m c 1 t (ix2 r n)) = fun n => aSl m c (ix2 l n) from funext fun n => blk1 m c t r l hl n,
    show (fun n e => X0_2 m c t (ix3 0 n e)) = fun (n : Fin 4096) (e : Fin 512) => aP m c (ix3 b ⟨n, by omega⟩ ⟨6144 + e, by omega⟩)
      from funext fun n => funext fun e => blk2 m c t b hb n e,
    show (fun d k => iblk m c 3 t (ix2 d k)) = fun d k => aCc m c (ix2 d k) from funext fun d => funext fun k => blk3 m c t d k,
    show (fun d k => iblk m c 4 t (ix2 d k)) = fun d k => aSc m c (ix2 d k) from funext fun d => funext fun k => blk4 m c t d k]

/-- The output array after the launch is the reference's result. -/
theorem final5 : (dats m 0 c).arrAt 5 (cfgs 0).N = Cert.Reference5Ideal.Dft.res (aCl m c) (aSl m c) (aP m c) (aCc m c) (aSc m c) := by
  refine (dats m 0 c).arrAt_eq_of_covers 5 _ (by decide +kernel) fun t hf y => ?_
  have ht : t.val < 64 := lt_of_lt_of_eq t.isLt Gen.N_0
  blk_simp
  rw [after0_5]
  have y0 : (y 0).val < 1 := (y 0).isLt
  have y1 : (y 1).val < 512 := (y 1).isLt
  have y2 : (y 2).val < 512 := (y 2).isLt
  obtain ⟨b, hb⟩ : ∃ b : Fin 8, (b : ℕ) = t.val % 8 := ⟨⟨t.val % 8, by omega⟩, rfl⟩
  obtain ⟨l, hl⟩ : ∃ l : Fin 4096, (l : ℕ) = t.val / 8 * 512 + (y 1).val := ⟨⟨t.val / 8 * 512 + (y 1).val, by omega⟩, rfl⟩
  obtain ⟨e, he⟩ : ∃ e : Fin 512, (e : ℕ) = (y 2).val := ⟨⟨(y 2).val, y2⟩, rfl⟩
  have hemb : (win0_5.blk t).view.emb y = ix3 b l e := by
    blk_ext [idx5 t]
  refine Eq.trans ?_ ((congrArg (Cert.Reference5Ideal.Dft.res (aCl m c) (aSl m c) (aP m c) (aCc m c) (aSc m c)) hemb).trans
    (Cert.Reference5Ideal.Dft.res_at (aCl m c) (aSl m c) (aP m c) (aCc m c) (aSc m c) b l ⟨(y 2).val / 128, by omega⟩ ⟨(y 2).val % 128, by omega⟩ e
      (by show e.val = (y 2).val / 128 * 128 + (y 2).val % 128; omega))).symm
  exact (row_at m c t y).trans (ent_eq m c t b hb _ l hl _ _)

end Cert.Kernel5Ideal.Dft

namespace Cert.Proof

open Idealize.ShloMosaic Idealize.ShloMosaic.TcCoe Idealize.SL.Sem

/-- The Fourier branch's reference runs, leaves its arguments unchanged and every counter at zero. -/
theorem dft_reference_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The Fourier branch's launch and its reference compute the same array over the extended reals. -/
theorem dft_value : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 5 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨h0, h1, h2, h3, h4⟩ := hag c
  refine Eq.trans ?_ (Cert.Kernel5Ideal.Dft.final5 m c).symm
  show Cert.Reference5Ideal.Dft.res _ _ _ _ _ = _
  exact congr (congr (congr (congrArg₂ Cert.Reference5Ideal.Dft.res h0 h1) h2) h3) h4

end Cert.Proof

end
-- ==== Proof.CtxFrame.lean ====
module

public import proofs.«01_k».proof.Proof.Gen.Kernel6Ideal.Frame
public import proofs.«01_k».proof.Proof.Gen.Kernel6Ideal.Skeleton
public import Idealize.ShloMosaic.Lib.Pipeline.ValueKit
public import Idealize.ShloMosaic.Lib.WholeRead
public import Idealize.ShloMosaic.Lib.Claim

@[expose] public section

set_option maxRecDepth 16384

noncomputable section

/- The frame of the in-projection of the context's tokens into the latent tokens' arrays. The projection of the 32 gate columns is stored at the first of a block of rows' four
   points and written back at the fourth, and the modulated rows are carried in the scratch between them: what both
   hold at a point is a function of the block's first point, named here, so the proof data is stated outright. -/
namespace Cert.Kernel6Ideal.Ctx

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A store of the whole of a buffer leaves what was stored. -/
theorem store_whole {sp : Space} {S : Shape} {e : EltTy} (v : View sig .tc sp S e) (f : v.ty.Contents (Elt F)) {off : Fin S.rank → Nat}
    (inb : ∀ a, off a + S.size a ≤ S.size a) (w : S.Idx → Elt F e) (h : ∀ a, off a = 0) :
    v.read (Elt F) (v.writes (Elt F) f [⟨Rect.unit off (no_index S.size) inb, w⟩]) = w := by
  obtain rfl := View.eq_zero_of_forall h
  funext y
  have hy : (Rect.whole S).emb y = y := Rect.emb_whole_apply _ y
  exact (congrArg (v.read (Elt F) (v.writes (Elt F) f [⟨Rect.whole S, w⟩])) hy.symm).trans (View.read_writes_cons_emb ..)

/-- The condition of the body's branch. -/
abbrev first (i : grid0.Coords) : Prop := k0_cond1 i = 1#1

/-- It holds at every fourth point. -/
theorem first_iff : ∀ t : Fin cfg0.N, first (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 4 % 1 := Pipeline.Grid.coords_val t 1 (by decide) rfl
    have e2 : (grid0.coords t 2).val = t.val / 1 % 4 := Pipeline.Grid.coords_val t 2 (by decide) rfl
    simp only [first, k0_cond1, e0, e1, e2]
    word_cmp
   : ∀ t : Fin grid0.N, first (grid0.coords t) ↔ t.val % 4 = 0)

/-- Window 0's staging memref at a point. -/
abbrev mS0 (t : Fin cfg0.N) : Memref sig .tc .vmem S1x256x1024 .f32 := win0_0.stage (cfg0.slots t 0)
/-- Window 1's staging memref at a point. -/
abbrev mS1 (t : Fin cfg0.N) : Memref sig .tc .vmem S1x1x1024 .f32 := win0_1.stage (cfg0.slots t 1)
/-- Window 2's staging memref at a point. -/
abbrev mS2 (t : Fin cfg0.N) : Memref sig .tc .vmem S1x1x1024 .f32 := win0_2.stage (cfg0.slots t 2)
/-- Window 3's staging memref at a point. -/
abbrev mS3 (t : Fin cfg0.N) : Memref sig .tc .vmem S1024x1664 .bf16 := win0_3.stage (cfg0.slots t 3)
/-- Window 4's staging memref at a point. -/
abbrev mS4 (t : Fin cfg0.N) : Memref sig .tc .vmem S1024x128 .bf16 := win0_4.stage (cfg0.slots t 4)
/-- Window 5's staging memref at a point. -/
abbrev mS5 (t : Fin cfg0.N) : Memref sig .tc .vmem S1x256x1664 .bf16 := win0_5.stage (cfg0.slots t 5)
/-- Window 6's staging memref at a point. -/
abbrev mS6 (t : Fin cfg0.N) : Memref sig .tc .vmem S1x256x128 .f32 := win0_6.stage (cfg0.slots t 6)
/-- The scratch. -/
abbrev sc0 : Memref sig .tc .vmem S256x1024 .bf16 := Memref.whole cc0_scratch0

/-- The class's invariant with the scratch as a memref. -/
theorem inv_eq (c : Dev nD) :
    (Pipeline.ΦA spec0 c : sProp (MT nD τ sig Unit (Elt F) ℕ (UR sig nD τ) ℕ))
      = iprop(iprop((∃ d, owns (c : Thread nD τ) sc0 fullShare d)) ∗ (∃ r, prngReg c r)) := by
  unfold Pipeline.ΦA; rw [scopedRest0_eq]; simp only [sc0, owns_whole]; try rfl

set_option maxHeartbeats 4000000 in
/-- Away from a block's first point the body stores the projection of the carried rows and leaves the rest. -/
theorem runB (c : Dev nD) (i : grid0.Coords) (a3 : Memref sig .tc .vmem S1x256x1024 .f32) (ha3 : a3.IsWhole) (a4 : Memref sig .tc .vmem S1x1x1024 .f32) (ha4 : a4.IsWhole) (a5 : Memref sig .tc .vmem S1x1x1024 .f32) (ha5 : a5.IsWhole) (a6 : Memref sig .tc .vmem S1024x1664 .bf16) (ha6 : a6.IsWhole) (a7 : Memref sig .tc .vmem S1024x128 .bf16) (ha7 : a7.IsWhole) (p : Memref sig .tc .hbm S8x4352x6656 .bf16) (hp : p.IsWhole) (q : Memref sig .tc .hbm S8x4352x128 .f32) (hq : q.IsWhole) (a8 : Memref sig .tc .vmem S1x256x1664 .bf16) (ha8 : a8.IsWhole) (a9 : Memref sig .tc .vmem S1x256x128 .f32) (ha9 : a9.IsWhole) (a10 : Memref sig .tc .vmem S256x1024 .bf16) (ha10 : a10.IsWhole) (hc : ¬first i)
    (x0 : Vec F S1x256x1024 .f32) (x1 : Vec F S1x1x1024 .f32) (x2 : Vec F S1x1x1024 .f32) (x3 : Vec F S1024x1664 .bf16) (x4 : Vec F S1024x128 .bf16) (x6 : Vec F S1x256x128 .f32) (xs : Vec F S256x1024 .bf16) (E : Set ℕ) (K : PUnit → sProp (MT nD τ sig Unit (Elt F) ℕ (UR sig nD τ) ℕ)) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare x6 ∗ owns (c : Thread nD τ) a10 fullShare xs
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (k0_pay2 xs x3) ∗ owns (c : Thread nD τ) a9 fullShare x6 ∗ owns (c : Thread nD τ) a10 fullShare xs) -∗ K ⟨⟩))
      ⊢ wp frame (wpE (defs₀ (F := F)) Variants.none c none) E (cc0__inproj_kernel i a3 ha3 a4 ha4 a5 ha5 a6 ha6 a7 ha7 p hp q hq a8 ha8 a9 ha9 a10 ha10) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := ha3.eq_unread hf0; obtain rfl := ha4.eq_unread hf1; obtain rfl := ha5.eq_unread hf2; obtain rfl := ha6.eq_unread hf3; obtain rfl := ha7.eq_unread hf4; obtain rfl := ha9.eq_unread hf6; obtain rfl := ha10.eq_unread hfs
  sl_exec (disch := first | sl_exact hc)
  sl_step
  iapply Hk
  isplitl [H0]
  · iexists _; isplitr; · ipureintro; exact ha3.read_unread _
    iexact H0
  isplitl [H1]
  · iexists _; isplitr; · ipureintro; exact ha4.read_unread _
    iexact H1
  isplitl [H2]
  · iexists _; isplitr; · ipureintro; exact ha5.read_unread _
    iexact H2
  isplitl [H3]
  · iexists _; isplitr; · ipureintro; exact ha6.read_unread _
    iexact H3
  isplitl [H4]
  · iexists _; isplitr; · ipureintro; exact ha7.read_unread _
    iexact H4
  isplitl [H5]
  · iexists _; isplitr; swap; · iexact H5
    ipureintro
    simp (disch := decide) only [store_whole, View.ld_unit_lit', View.readAt_eq_ld, Memref.IsWhole.read_unread]
  isplitl [H6]
  · iexists _; isplitr; swap; · iexact H6
    ipureintro
    exact ha9.read_unread _
  iexists _; isplitr; swap; · iexact HS
  ipureintro
  exact ha10.read_unread _

set_option maxHeartbeats 4000000 in
/-- At a block's first point the body modulates the rows into the scratch, and stores their two projections. -/
theorem runA (c : Dev nD) (i : grid0.Coords) (a3 : Memref sig .tc .vmem S1x256x1024 .f32) (ha3 : a3.IsWhole) (a4 : Memref sig .tc .vmem S1x1x1024 .f32) (ha4 : a4.IsWhole) (a5 : Memref sig .tc .vmem S1x1x1024 .f32) (ha5 : a5.IsWhole) (a6 : Memref sig .tc .vmem S1024x1664 .bf16) (ha6 : a6.IsWhole) (a7 : Memref sig .tc .vmem S1024x128 .bf16) (ha7 : a7.IsWhole) (p : Memref sig .tc .hbm S8x4352x6656 .bf16) (hp : p.IsWhole) (q : Memref sig .tc .hbm S8x4352x128 .f32) (hq : q.IsWhole) (a8 : Memref sig .tc .vmem S1x256x1664 .bf16) (ha8 : a8.IsWhole) (a9 : Memref sig .tc .vmem S1x256x128 .f32) (ha9 : a9.IsWhole) (a10 : Memref sig .tc .vmem S256x1024 .bf16) (ha10 : a10.IsWhole) (hc : first i)
    (x0 : Vec F S1x256x1024 .f32) (x1 : Vec F S1x1x1024 .f32) (x2 : Vec F S1x1x1024 .f32) (x3 : Vec F S1024x1664 .bf16) (x4 : Vec F S1024x128 .bf16) (E : Set ℕ) (K : PUnit → sProp (MT nD τ sig Unit (Elt F) ℕ (UR sig nD τ) ℕ)) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ (∃ d, owns (c : Thread nD τ) a9 fullShare d) ∗ (∃ d, owns (c : Thread nD τ) a10 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (k0_pay2 (k0_pay4 x0 x2 x1) x3) ∗ owns (c : Thread nD τ) a9 fullShare (k0_pay1 (k0_pay5 x0 x2 x1 x4)) ∗ owns (c : Thread nD τ) a10 fullShare (k0_pay4 x0 x2 x1)) -∗ K ⟨⟩))
      ⊢ wp frame (wpE (defs₀ (F := F)) Variants.none c none) E (cc0__inproj_kernel i a3 ha3 a4 ha4 a5 ha5 a6 ha6 a7 ha7 p hp q hq a8 ha8 a9 ha9 a10 ha10) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := ha3.eq_unread hf0; obtain rfl := ha4.eq_unread hf1; obtain rfl := ha5.eq_unread hf2; obtain rfl := ha6.eq_unread hf3; obtain rfl := ha7.eq_unread hf4
  sl_exec (disch := first | sl_exact hc)
  sl_step
  iapply Hk
  isplitl [H0]
  · iexists _; isplitr; · ipureintro; exact ha3.read_unread _
    iexact H0
  isplitl [H1]
  · iexists _; isplitr; · ipureintro; exact ha4.read_unread _
    iexact H1
  isplitl [H2]
  · iexists _; isplitr; · ipureintro; exact ha5.read_unread _
    iexact H2
  isplitl [H3]
  · iexists _; isplitr; · ipureintro; exact ha6.read_unread _
    iexact H3
  isplitl [H4]
  · iexists _; isplitr; · ipureintro; exact ha7.read_unread _
    iexact H4
  isplitl [H5]
  · iexists _; isplitr; swap; · iexact H5
    ipureintro
    frame_open; simp (disch := decide) only [store_whole, View.ld_unit_lit', View.readCov_unit_lit', View.readCov_cons_unit_lit', View.readAt_eq_ld, Memref.IsWhole.read_unread]
  isplitl [H6]
  · iexists _; isplitr; swap; · iexact H6
    ipureintro
    frame_open; simp (disch := decide) only [store_whole, View.ld_unit_lit', View.readCov_unit_lit', View.readCov_cons_unit_lit', View.readAt_eq_ld, Memref.IsWhole.read_unread]
  iexists _; isplitr; swap; · iexact HS
  ipureintro
  frame_open; simp (disch := decide) only [store_whole, View.ld_unit_lit', View.readCov_unit_lit', View.readCov_cons_unit_lit', View.readAt_eq_ld, Memref.IsWhole.read_unread]

/-! ## What each point holds -/

/-- The first point of a point's block of rows. -/
abbrev base (t : Fin cfg0.N) : Fin cfg0.N := ⟨t.val - t.val % 4, Nat.lt_of_le_of_lt (Nat.sub_le _ _) t.isLt⟩

/-- The modulated rows of a point's block. -/
def hAt (c : Dev nD) (t : Fin cfg0.N) : Vec F S256x1024 .bf16 :=
  k0_pay4 (iblk m c 0 (base t)) (iblk m c 2 (base t)) (iblk m c 1 (base t))

/-- The gate columns' projection of a point's block. -/
def abAt (c : Dev nD) (t : Fin cfg0.N) : Vec F S1x256x128 .f32 :=
  k0_pay1 (k0_pay5 (iblk m c 0 (base t)) (iblk m c 2 (base t)) (iblk m c 1 (base t)) (iblk m c 4 (base t)))

theorem base_first (t : Fin cfg0.N) (h : t.val % 4 = 0) : base t = t := Fin.ext (by show t.val - t.val % 4 = t.val; omega)

/-- Points of one block of rows have one first point. -/
theorem base_prev (t : Fin cfg0.N) (h : ¬t.val % 4 = 0) (h' : t.val - 1 < cfg0.N) : base ⟨t.val - 1, h'⟩ = base t :=
  Fin.ext (by show (t.val - 1) - (t.val - 1) % 4 = t.val - t.val % 4; omega)

theorem hAt_prev (c : Dev nD) (t : Fin cfg0.N) (h : ¬t.val % 4 = 0) (h' : t.val - 1 < cfg0.N) : hAt m c ⟨t.val - 1, h'⟩ = hAt m c t := by
  unfold hAt; rw [base_prev t h h']

theorem abAt_prev (c : Dev nD) (t : Fin cfg0.N) (h : ¬t.val % 4 = 0) (h' : t.val - 1 < cfg0.N) : abAt m c ⟨t.val - 1, h'⟩ = abAt m c t := by
  unfold abAt; rw [base_prev t h h']

/-- The invariant: nothing named before the first point, then the scratch at the modulated rows of the block of the
    point before. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) sc0 fullShare (hAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) sc0 fullShare (hAt m c ⟨n - 1, by omega⟩) ∗ (∃ r, prngReg c r)) := by
  cases n with
  | zero => exact absurd rfl hz
  | succ n => rfl

/-- The proof data: the inputs at their blocks, the two outputs at the projections of the block's modulated rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hAt m c t) (iblk m c 3 t)
    | ⟨6, _⟩ => abAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay2 (hAt m c t) (iblk m c 3 t) := by dsimp only [dats]
theorem after0_6 (c : Dev nD) (t : Fin cfg0.N) : (dats m 0 c).after 6 t = abAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The gate columns' window is idle exactly away from a block's first point. -/
theorem idle6 (t : Fin cfg0.N) : cfg0.idle 6 (cfg0.grid.coords t) = true ↔ ¬t.val % 4 = 0 := by
  rw [← first_iff t]
  show (!(k0_cond1 (grid0.coords t) == 1#1)) = true ↔ ¬(k0_cond1 (grid0.coords t) = 1#1)
  simp

theorem flush6_false (t : Fin cfg0.N) (h : ¬t.val % 4 = 3) : (cfg0.win 6).flush t = false :=
  Bool.eq_false_iff.mpr fun hf => h ((flush0_6 t).mp hf)

/-- The gate columns' blocks lie whole in their array. -/
theorem clip6 : ∀ (t : Fin cfg0.N) (a : Fin 3), (cfg0.win 6).clip (cfg0.grid.coords t) a = none :=
  (by decide +kernel : ∀ (t : Fin grid0.N) (a : Fin 3), win0_6.clip (grid0.coords t) a = none)

/-- Between a block's first point and its write-back the gate columns' buffer keeps the first point's projection. -/
theorem before0_6 (c : Dev nD) (n : ℕ) : ∀ (t : Fin cfg0.N), t.val = n → ¬t.val % 4 = 0 → ∀ d, (dats m 0 c).before 6 t d = abAt m c t := by
  induction n with
  | zero => intro t ht h; exact absurd (by rw [ht]) h
  | succ n ih =>
    intro t ht h d
    have hp : t.val - 1 < cfg0.N := Nat.lt_of_le_of_lt (Nat.sub_le _ _) t.isLt
    rw [(dats m 0 c).before_of_pos 6 t (by omega) ((cfg0.win 6).fetch_out rfl t) d,
      flush6_false ⟨t.val - 1, hp⟩ (by show ¬(t.val - 1) % 4 = 3; omega), if_neg Bool.false_ne_true]
    by_cases h0 : (t.val - 1) % 4 = 0
    · have hi : cfg0.idle 6 (cfg0.grid.coords ⟨t.val - 1, hp⟩) = false :=
        Bool.eq_false_iff.mpr fun hi => (idle6 ⟨t.val - 1, hp⟩).mp hi h0
      unfold Dat.left; rw [hi]
      show (dats m 0 c).kept 6 ⟨t.val - 1, hp⟩ d = _
      unfold Dat.kept
      rw [Pipeline.fill_of_clip_none 6 _ (clip6 _) d ((dats m 0 c).after 6 ⟨t.val - 1, hp⟩), Window.fill_cut, after0_6,
        abAt_prev m c t h hp]
    · have hi : cfg0.idle 6 (cfg0.grid.coords ⟨t.val - 1, hp⟩) = true := (idle6 ⟨t.val - 1, hp⟩).mpr h0
      unfold Dat.left; rw [hi]
      show (dats m 0 c).before 6 ⟨t.val - 1, hp⟩ d = _
      rw [ih ⟨t.val - 1, hp⟩ (by show t.val - 1 = n; omega) h0 d, abAt_prev m c t h hp]

/-- What the gate columns' window is left at, away from a block's first point. -/
theorem leaves6 (c : Dev nD) (t : Fin cfg0.N) (h : ¬t.val % 4 = 0) :
    owns (c : Thread nD τ) (mS6 t) fullShare (abAt m c t) ⊢ (dats m 0 c).leavesExact 6 t := by
  have hi := (idle6 t).mpr h
  by_cases hf : t.val % 4 = 3
  · rw [show (dats m 0 c).leavesExact 6 t = owns (c : Thread nD τ) (mS6 t) fullShare ((dats m 0 c).after 6 t) from by
      unfold Dat.leavesExact; rw [hi, (flush0_6 t).mpr hf], after0_6]
  · rw [(dats m 0 c).leavesExact_idle 6 t hi (flush6_false t hf)]
    iintro H; iexists default
    rw [before0_6 m c t.val t rfl h]
    iexact H

/-- At a block's first point the window is live. -/
theorem leaves6_first (c : Dev nD) (t : Fin cfg0.N) (h : t.val % 4 = 0) :
    (dats m 0 c).leavesExact 6 t = owns (c : Thread nD τ) (mS6 t) fullShare (abAt m c t) := by
  have hi : cfg0.idle 6 (cfg0.grid.coords t) = false := Bool.eq_false_iff.mpr fun hi => (idle6 t).mp hi h
  rw [← after0_6 m c t]
  unfold Dat.leavesExact; rw [hi]

/-! ## The body obligation -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (mS0 t) fullShare ((dats m 0 c).before 0 t d))
    ∗ (∃ d, owns (c : Thread nD τ) (mS1 t) fullShare ((dats m 0 c).before 1 t d))
    ∗ (∃ d, owns (c : Thread nD τ) (mS2 t) fullShare ((dats m 0 c).before 2 t d))
    ∗ (∃ d, owns (c : Thread nD τ) (mS3 t) fullShare ((dats m 0 c).before 3 t d))
    ∗ (∃ d, owns (c : Thread nD τ) (mS4 t) fullShare ((dats m 0 c).before 4 t d))
    ∗ (∃ d, owns (c : Thread nD τ) (mS5 t) fullShare ((dats m 0 c).before 5 t d))
    ∗ (∃ d, owns (c : Thread nD τ) (mS6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (mS0 t) fullShare ((dats m 0 c).after 0 t)
    ∗ owns (c : Thread nD τ) (mS1 t) fullShare ((dats m 0 c).after 1 t)
    ∗ owns (c : Thread nD τ) (mS2 t) fullShare ((dats m 0 c).after 2 t)
    ∗ owns (c : Thread nD τ) (mS3 t) fullShare ((dats m 0 c).after 3 t)
    ∗ owns (c : Thread nD τ) (mS4 t) fullShare ((dats m 0 c).after 4 t)
    ∗ owns (c : Thread nD τ) (mS5 t) fullShare ((dats m 0 c).after 5 t)
    ∗ (dats m 0 c).leavesExact 6 t)

/-- The invariant before a point gives the scratch at anything. -/
theorem Phi_any (c : Dev nD) (n : ℕ) (h : n ≤ cfg0.N) :
    PhiS m c n h ⊢ iprop((∃ d, owns (c : Thread nD τ) sc0 fullShare d) ∗ (∃ r, prngReg c r)) := by
  by_cases hz : n = 0
  · rw [PhiS_zero m c n h hz, inv_eq]
  · rw [PhiS_pos m c n h hz]
    iintro ⟨HS, Hg⟩
    isplitl [HS]; · iexists _; iexact HS
    iexact Hg

set_option maxHeartbeats 4000000 in
/-- The body at any point: a block's first, or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = iprop(owns (c : Thread nD τ) sc0 fullShare (hAt m c t) ∗ (∃ r, prngReg c r)) from rfl,
    show (dats m 0 c).Φ t.castSucc = PhiS m c t.val (Nat.le_of_lt t.isLt) from rfl]
  by_cases h0 : t.val % 4 = 0
  · rw [leaves6_first m c t h0]
    have eh : hAt m c t = k0_pay4 (iblk m c 0 t) (iblk m c 2 t) (iblk m c 1 t) := by unfold hAt; rw [base_first t h0]
    have ea : abAt m c t = k0_pay1 (k0_pay5 (iblk m c 0 t) (iblk m c 2 t) (iblk m c 1 t) (iblk m c 4 t)) := by
      unfold abAt; rw [base_first t h0]
    rw [eh, ea]
    refine (sep_mono_left (Phi_any m c _ _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    rw [PhiS_pos m c _ _ hz, hAt_prev m c t h0]
    simp only [before0_6 m c t.val t rfl h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (abAt m c t) (hAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [inv_eq]; exact Phi_any m c cfg0.N (Nat.le_refl _)

/-! ## The run and the frame -/

set_option backward.isDefEq.respectTransparency.types false in
/-- Every execution terminates with the pipeline's arrays at what the proof data computes and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel6Ideal.Ctx

end
-- ==== Proof.CtxIdx.lean ====
module

public import proofs.«01_k».proof.Proof.Gen.Kernel6Ideal.Frame
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

namespace Cert.Kernel6Ideal.Ctx

open Idealize.ShloMosaic Idealize.ShloMosaic.TcCoe Idealize.SL.Sem Idealize.ShloMosaic.Tactic
open Idealize.ShloMosaic.StableHlo
open Cert.Kernel6Ideal Cert.Kernel6Ideal.Gen

variable (m : (ℓ : Loc nD τ sig) → Buf (Elt Ideal) ℓ) (c : Dev nD)

/-- The tokens the program takes. -/
abbrev aX : FVec Ideal S8x256x1024 .f32 := m ((c.tc : Thread nD τ).loc main_arg0)
/-- The shift the program takes. -/
abbrev aSh : FVec Ideal S8x1x1024 .f32 := m ((c.tc : Thread nD τ).loc main_arg1)
/-- The scale the program takes. -/
abbrev aSc : FVec Ideal S8x1x1024 .f32 := m ((c.tc : Thread nD τ).loc main_arg2)
/-- The weights the program takes. -/
abbrev aW : FVec Ideal S1024x6688 .f32 := m ((c.tc : Thread nD τ).loc main_arg3)
/-- The latent tokens' projection the program takes. -/
abbrev aP : FVec Ideal S8x4352x6656 .bf16 := m ((c.tc : Thread nD τ).loc main_arg4)
/-- The latent tokens' gate columns the program takes. -/
abbrev aG : FVec Ideal S8x4352x128 .f32 := m ((c.tc : Thread nD τ).loc main_arg5)

theorem idx0 : ∀ t : Fin cfg0.N, win0_0.index t = ![t.val / 4, 0, 0] :=
  (by decide +kernel : ∀ t : Fin grid0.N, win0_0.index t = ![t.val / 4, 0, 0])
/-- The tokens' block, read at an entry. -/
theorem blk0 (t : Fin cfg0.N) (b : Fin 8) (r : Fin 256) (hb : (b : ℕ) = t.val / 4) (e : Fin 1024) :
    iblk m c 0 t (ix3 0 r e) = aX m c (ix3 b r e) := by
  refine Eq.trans ?_ (congrFun (V_main_arg0 m c) (ix3 b r e))
  blk_point [iblk, idx0 t]

theorem idx1 : ∀ t : Fin cfg0.N, win0_1.index t = ![t.val / 4, 0, 0] :=
  (by decide +kernel : ∀ t : Fin grid0.N, win0_1.index t = ![t.val / 4, 0, 0])
/-- The shift's block, read at an entry. -/
theorem blk1 (t : Fin cfg0.N) (b : Fin 8) (hb : (b : ℕ) = t.val / 4) (e : Fin 1024) :
    iblk m c 1 t (ix3 0 0 e) = aSh m c (ix3 b 0 e) := by
  refine Eq.trans ?_ (congrFun (V_main_arg1 m c) (ix3 b 0 e))
  blk_point [iblk, idx1 t]

theorem idx2 : ∀ t : Fin cfg0.N, win0_2.index t = ![t.val / 4, 0, 0] :=
  (by decide +kernel : ∀ t : Fin grid0.N, win0_2.index t = ![t.val / 4, 0, 0])
/-- The scale's block, read at an entry. -/
theorem blk2 (t : Fin cfg0.N) (b : Fin 8) (hb : (b : ℕ) = t.val / 4) (e : Fin 1024) :
    iblk m c 2 t (ix3 0 0 e) = aSc m c (ix3 b 0 e) := by
  refine Eq.trans ?_ (congrFun (V_main_arg2 m c) (ix3 b 0 e))
  blk_point [iblk, idx2 t]

/-- Where a column of the kept projection lies in the weights. -/
def col (e : Fin 6656) : Fin 6688 :=
  if h : (e : ℕ) < 4096 then ⟨32 + e, by omega⟩ else if h : (e : ℕ) < 6144 then ⟨e + 544, by omega⟩ else ⟨e - 2016, by omega⟩

theorem col_lo (e : Fin 6656) (h : (e : ℕ) < 4096) : (col e : ℕ) = 32 + e := by
  unfold col
  simp only [dif_pos h]
theorem col_mid (e : Fin 6656) (h : ¬ (e : ℕ) < 4096) (h' : (e : ℕ) < 6144) : (col e : ℕ) = e + 544 := by
  unfold col
  simp only [dif_neg h, dif_pos h']
theorem col_hi (e : Fin 6656) (h : ¬ (e : ℕ) < 4096) (h' : ¬ (e : ℕ) < 6144) : (col e : ℕ) = e - 2016 := by
  unfold col
  simp only [dif_neg h, dif_neg h']

/-- The kept projection's weights at an entry. -/
theorem V3 (i : Fin 1024) (e : Fin 6656) : V m c main_v4 (ix2 i e) = aW m c (ix2 i (col e)) := by
  unfold V hostOps0 hostOps0_1 hostOps0_2
  simp only [List.flatten_cons, List.flatten_nil, List.append_nil, List.cons_append, List.nil_append]
  after_reads_at
  after_reads_at
  by_cases h1 : (e : ℕ) < 4096
  · simp only [dif_pos h1]
    exact congrArg (aW m c) ((ix2_inj ..).2 ⟨rfl, Fin.ext (col_lo e h1).symm⟩)
  · by_cases h2 : (e : ℕ) < 6144
    · simp only [dif_neg h1, dif_pos (show (e : ℕ) - 4096 < 2048 by omega)]
      exact congrArg (aW m c) ((ix2_inj ..).2 ⟨rfl, Fin.ext (Eq.trans (by show 4640 + ((e : ℕ) - 4096) = e + 544; omega) (col_mid e h1 h2).symm)⟩)
    · simp only [dif_neg h1, dif_neg (show ¬ (e : ℕ) - 4096 < 2048 by omega)]
      exact congrArg (aW m c) ((ix2_inj ..).2 ⟨rfl, Fin.ext (Eq.trans (by show 4128 + ((e : ℕ) - 4096 - 2048) = e - 2016; omega) (col_hi e h1 h2).symm)⟩)

/-- The two output arrays at the launch's entry are the arrays the program takes. -/
theorem V5 (i : S8x4352x6656.Idx) : V m c main_v8_0 i = aP m c i := by
  unfold V hostOps0 hostOps0_1 hostOps0_2
  simp only [List.flatten_cons, List.flatten_nil, List.append_nil, List.cons_append, List.nil_append]
  after_reads_at
  rfl
theorem V6 (i : S8x4352x128.Idx) : V m c main_v8_1 i = aG m c i := by
  unfold V hostOps0 hostOps0_1 hostOps0_2
  simp only [List.flatten_cons, List.flatten_nil, List.append_nil, List.cons_append, List.nil_append]
  after_reads_at
  rfl

/-- The gate columns of the weights at the launch's entry, -/
theorem V4a (i : Fin 1024) (e : Fin 32) : V m c main_v7 (ix2 i ⟨e, by omega⟩) = aW m c (ix2 i ⟨e, by omega⟩) := by
  unfold V hostOps0 hostOps0_1 hostOps0_2
  simp only [List.flatten_cons, List.flatten_nil, List.append_nil, List.cons_append, List.nil_append]
  after_reads_at

/-- and their padding. -/
theorem V4b (i : Fin 1024) (e : Fin 96) : V m c main_v7 (ix2 i ⟨32 + e, by omega⟩) = (0 : EReal) := by
  unfold V hostOps0 hostOps0_1 hostOps0_2
  simp only [List.flatten_cons, List.flatten_nil, List.append_nil, List.cons_append, List.nil_append]
  after_reads_at
  exact sitofp_zero (φ := .f32)

theorem idx3 : ∀ t : Fin cfg0.N, win0_3.index t = ![0, t.val % 4] :=
  (by decide +kernel : ∀ t : Fin grid0.N, win0_3.index t = ![0, t.val % 4])
/-- The weights' block, read at an entry. -/
theorem blk3 (t : Fin cfg0.N) (i : Fin 1024) (e : Fin 1664) (k : Fin 6656) (hk : (k : ℕ) = t.val % 4 * 1664 + e) :
    iblk m c 3 t (ix2 i e) = V m c main_v4 (ix2 i k) := by
  blk_point [iblk, idx3 t]

theorem idx4 : ∀ t : Fin cfg0.N, win0_4.index t = ![0, 0] :=
  (by decide +kernel : ∀ t : Fin grid0.N, win0_4.index t = ![0, 0])
/-- The gate columns' block, read at an entry. -/
theorem blk4 (t : Fin cfg0.N) (i : Fin 1024) (e : Fin 128) : iblk m c 4 t (ix2 i e) = V m c main_v7 (ix2 i e) := by
  blk_point [iblk, idx4 t]

end Cert.Kernel6Ideal.Ctx

end
-- ==== Proof.CtxRow.lean ====
module

public import proofs.«01_k».proof.Proof.MergeRow
public import proofs.«01_k».proof.Proof.Gen.Kernel6Ideal.Skeleton
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel6Ideal.Ctx

open Idealize.ShloMosaic Idealize.ShloMosaic.TcCoe Idealize.SL.Sem Idealize.ShloMosaic.Tactic
open Cert.Kernel6Ideal Cert.Kernel6Ideal.Gen
open Cert.MergeRow

/-- The modulated rows at an entry: the layer norm of the row, scaled and shifted. -/
theorem pay3_at (x : Vec Ideal S1x256x1024 .f32) (sc sh : Vec Ideal S1x1x1024 .f32) (r : Fin 256) (e : Fin 1024) :
    k0_pay3 x sc sh (ix2 r e) = modul (fun k => x (ix3 0 r k)) (fun k => sc (ix3 0 0 k)) (fun k => sh (ix3 0 0 k)) e := by
  unfold k0_pay3 modul scale cent mean
  pointwise

/-- The rows carried in the scratch are the modulated rows. -/
theorem pay4_at (x : Vec Ideal S1x256x1024 .f32) (sc sh : Vec Ideal S1x1x1024 .f32) (r : Fin 256) (e : Fin 1024) :
    k0_pay4 x sc sh (ix2 r e) = modul (fun k => x (ix3 0 r k)) (fun k => sc (ix3 0 0 k)) (fun k => sh (ix3 0 0 k)) e := by
  unfold k0_pay4
  pointwise [pay3_at]

/-- The projection of carried rows, at an entry. -/
theorem pay2_at (h : Vec Ideal S256x1024 .bf16) (w : Vec Ideal S1024x1664 .bf16) (r : Fin 256) (e : Fin 1664) :
    k0_pay2 h w (ix3 0 r e) = ∑ i : Fin 1024, h (ix2 r i) * w (ix2 i e) := by
  unfold k0_pay2
  pointwise

/-- The gate columns' projection, at an entry. -/
theorem pay1_at (x : Vec Ideal S1x256x1024 .f32) (sc sh : Vec Ideal S1x1x1024 .f32) (w : Vec Ideal S1024x128 .bf16) (r : Fin 256) (e : Fin 128) :
    k0_pay1 (k0_pay5 x sc sh w) (ix3 0 r e)
      = ∑ i : Fin 1024, modul (fun k => x (ix3 0 r k)) (fun k => sc (ix3 0 0 k)) (fun k => sh (ix3 0 0 k)) i * w (ix2 i e) := by
  unfold k0_pay1 k0_pay5
  pointwise [pay3_at]

end Cert.Kernel6Ideal.Ctx

end
-- ==== Proof.CtxRef.lean ====
module

public import proofs.«01_k».proof.Proof.MergeRow
public import proofs.«01_k».proof.Proof.Gen.Reference6Ideal.Run
public import Idealize.ShloMosaic.Lib.Pointwise
public import Idealize.ShloMosaic.Lib.KernelVsHost

@[expose] public section

set_option maxRecDepth 16384

noncomputable section

namespace Cert.Reference6Ideal.Ctx

open Idealize.ShloMosaic Idealize.ShloMosaic.TcCoe Idealize.SL.Sem Idealize.ShloMosaic.Tactic
open Cert.Reference6Ideal Cert.Reference6Ideal.Gen Cert.Reference6Ideal.Value
open Cert.MergeRow

/-! The reference's two results as functions of its six arguments, step by step, and what each step is at an entry. -/

variable (x : FVec Ideal S8x256x1024 .f32) (sh sc : FVec Ideal S8x1x1024 .f32) (w : FVec Ideal S1024x6688 .f32)

/-- The mean of each token. -/
def xMean : FVec Ideal S8x256x1 .f32 :=
  Host.divf (broadcastInDim S8x256x1 ![0, 1] bcast_S8x256_S8x256x1_0_1 (Host.reduceAdd x (constant S_ .f32 0x00000000#32) reducesTo_S8x256x1024_S8x256_d2 h_S_))
    (broadcastInDim S8x256x1 ![] bcast_S_S8x256x1 (constant S_ .f32 0x44800000#32))

/-- Each token less its mean. -/
def xCent : FVec Ideal S8x256x1024 .f32 :=
  subf x (broadcastInDim S8x256x1024 ![0, 1, 2] bcast_S8x256x1_S8x256x1024_0_1_2 (xMean x))

/-- Each token's factor to unit variance. -/
def xRs : FVec Ideal S8x256x1 .f32 :=
  Host.rsqrt (addf (xMean (mulf (xCent x) (xCent x))) (broadcastInDim S8x256x1 ![] bcast_S_S8x256x1 (constant S_ .f32 0x358637BD#32)))

/-- The modulated tokens. -/
def xMod : FVec Ideal S8x256x1024 .f32 :=
  addf (mulf (mulf (xCent x) (broadcastInDim S8x256x1024 ![0, 1, 2] bcast_S8x256x1_S8x256x1024_0_1_2 (xRs x)))
      (broadcastInDim S8x256x1024 ![0, 1, 2] bcast_S8x1x1024_S8x256x1024_0_1_2
        (addf (broadcastInDim S8x1x1024 ![] bcast_S_S8x1x1024 (constant S_ .f32 0x3F800000#32)) sc)))
    (broadcastInDim S8x256x1024 ![0, 1, 2] bcast_S8x1x1024_S8x256x1024_0_1_2 sh)

/-- The whole projection. -/
def px : FVec Ideal S8x256x6688 .f32 :=
  Host.dotGeneral dot_S8x256x1024_S1024x6688_S8x256x6688_2_0_01_1_n_n none (xMod x sh sc) w

/-- The columns the reference keeps of the context's rows. -/
def cols : FVec Ideal S8x256x6656 .bf16 :=
  truncf .bf16 (concatenate S8x256x6656 2 [⟨S8x256x4096, extractStridedSlice S8x256x4096 ![0, 0, 32] (px x sh sc w) slices_S8x256x6688_S8x256x4096_0_0_32⟩,
      ⟨S8x256x2048, extractStridedSlice S8x256x2048 ![0, 0, 4640] (px x sh sc w) slices_S8x256x6688_S8x256x2048_0_0_4640⟩,
      ⟨S8x256x512, extractStridedSlice S8x256x512 ![0, 0, 4128] (px x sh sc w) slices_S8x256x6688_S8x256x512_0_0_4128⟩]
      concatenates_S8x256x4096_S8x256x2048_S8x256x512_S8x256x6656_d2) bitsLt_bf16_f32

/-- The gate columns of the context's rows, padded. -/
def gates : FVec Ideal S8x256x128 .f32 :=
  pad S8x256x128 ![0, 0, 0] ![0, 0, 96] ![0, 0, 0]
    (extractStridedSlice S8x256x32 ![0, 0, 0] (px x sh sc w) slices_S8x256x6688_S8x256x32_0_0_0)
    (sitofp .f32 (constantI S_ 32 0#32)) pads_S8x256x32_S8x256x128_000_000_0960 h_S_

/-- The reference's first result: the latent rows as they came, then the context's. -/
def res1 (p : FVec Ideal S8x4352x6656 .bf16) : FVec Ideal S8x4352x6656 .bf16 :=
  concatenate S8x4352x6656 1 [⟨S8x4096x6656, extractStridedSlice S8x4096x6656 ![0, 0, 0] p slices_S8x4352x6656_S8x4096x6656_0_0_0⟩,
    ⟨S8x256x6656, cols x sh sc w⟩] concatenates_S8x4096x6656_S8x256x6656_S8x4352x6656_d1

/-- The reference's second result: the latent gate columns as they came, then the context's. -/
def res2 (g : FVec Ideal S8x4352x128 .f32) : FVec Ideal S8x4352x128 .f32 :=
  concatenate S8x4352x128 1 [⟨S8x4096x128, extractStridedSlice S8x4096x128 ![0, 0, 0] g slices_S8x4352x128_S8x4096x128_0_0_0⟩,
    ⟨S8x256x128, gates x sh sc w⟩] concatenates_S8x4096x128_S8x256x128_S8x4352x128_d1

/-- What a run of the reference leaves, in those words. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2.1.trans rfl, (h c).2.2⟩) (Cert.Reference6Ideal.Value.run m ρ)

theorem xMean_at (b : Fin 8) (j : Fin 256) : xMean x (ix3 b j 0) = mean (fun e => x (ix3 b j e)) := by
  unfold xMean mean
  pointwise

theorem xCent_at (b : Fin 8) (j : Fin 256) (e : Fin 1024) : xCent x (ix3 b j e) = cent (fun e => x (ix3 b j e)) e := by
  unfold xCent cent
  pointwise [xMean_at]

theorem xRs_at (b : Fin 8) (j : Fin 256) : xRs x (ix3 b j 0) = scale (cent (fun e => x (ix3 b j e))) := by
  unfold xRs scale
  pointwise [xMean_at, mean, xCent_at]

/-- The modulated tokens at an entry. -/
theorem xMod_at (b : Fin 8) (j : Fin 256) (e : Fin 1024) :
    xMod x sh sc (ix3 b j e) = modul (fun e => x (ix3 b j e)) (fun e => sc (ix3 b 0 e)) (fun e => sh (ix3 b 0 e)) e := by
  unfold xMod modul
  pointwise [xCent_at, xRs_at]

/-- The projection at an entry. -/
theorem px_at (b : Fin 8) (j : Fin 256) (k : Fin 6688) :
    px x sh sc w (ix3 b j k)
      = ∑ i : Fin 1024, modul (fun e => x (ix3 b j e)) (fun e => sc (ix3 b 0 e)) (fun e => sh (ix3 b 0 e)) i * w (ix2 i k) := by
  unfold px
  pointwise [xMod_at]

end Cert.Reference6Ideal.Ctx
-- ==== Proof.CtxFinal.lean ====
module

public import proofs.«01_k».proof.Proof.CtxFrame
public import proofs.«01_k».proof.Proof.CtxIdx
public import proofs.«01_k».proof.Proof.CtxRow
public import proofs.«01_k».proof.Proof.CtxRef

@[expose] public section

set_option maxRecDepth 16384

noncomputable section

namespace Cert.Kernel6Ideal.Ctx

open Idealize.ShloMosaic Idealize.ShloMosaic.TcCoe Idealize.SL.Sem Idealize.ShloMosaic.Tactic
open Cert.Kernel6Ideal Cert.Kernel6Ideal.Gen
open Cert.MergeRow
open Cert.Reference6Ideal.Ctx (px px_at cols gates res1 res2)

variable (m : (ℓ : Loc nD τ sig) → Buf (Elt Ideal) ℓ) (c : Dev nD)

/-! ## The reference's results, by rows -/

section Ref
variable (x : FVec Ideal S8x256x1024 .f32) (sh sc : FVec Ideal S8x1x1024 .f32) (w : FVec Ideal S1024x6688 .f32)
variable (p : FVec Ideal S8x4352x6656 .bf16) (g : FVec Ideal S8x4352x128 .f32)

/-- The kept columns of a context row are the projection's. -/
theorem cols_at (b : Fin 8) (r : Fin 256) (e : Fin 6656) : cols x sh sc w (ix3 b r e) = px x sh sc w (ix3 b r (col e)) := by
  unfold cols
  pointwise
  by_cases h1 : (e : ℕ) < 4096
  · simp only [dif_pos h1]
    exact congrArg (px x sh sc w) ((ix3_inj ..).2 ⟨rfl, rfl, Fin.ext (col_lo e h1).symm⟩)
  · by_cases h2 : (e : ℕ) < 6144
    · simp only [dif_neg h1, dif_pos (show (e : ℕ) - 4096 < 2048 by omega)]
      exact congrArg (px x sh sc w) ((ix3_inj ..).2 ⟨rfl, rfl, Fin.ext (Eq.trans (by show 4640 + ((e : ℕ) - 4096) = e + 544; omega) (col_mid e h1 h2).symm)⟩)
    · simp only [dif_neg h1, dif_neg (show ¬ (e : ℕ) - 4096 < 2048 by omega)]
      exact congrArg (px x sh sc w) ((ix3_inj ..).2 ⟨rfl, rfl, Fin.ext (Eq.trans (by show 4128 + ((e : ℕ) - 4096 - 2048) = e - 2016; omega) (col_hi e h1 h2).symm)⟩)

/-- The gate columns of a context row: the projection's, -/
theorem gates_lo (b : Fin 8) (r : Fin 256) (e : Fin 128) (he : (e : ℕ) < 32) :
    gates x sh sc w (ix3 b r e) = px x sh sc w (ix3 b r ⟨e, by omega⟩) := by
  unfold gates
  pointwise [he]

/-- or zero past them. -/
theorem gates_hi (b : Fin 8) (r : Fin 256) (e : Fin 128) (he : ¬ (e : ℕ) < 32) : gates x sh sc w (ix3 b r e) = (0 : EReal) := by
  unfold gates
  pointwise [he]
  exact sitofp_zero (φ := .f32)

/-- The first result at a context row, -/
theorem res1_at (b : Fin 8) (J : Fin 4352) (r : Fin 256) (hJ : (J : ℕ) = 4096 + r) (e : Fin 6656) :
    res1 x sh sc w p (ix3 b J e) = cols x sh sc w (ix3 b r e) := by
  have hr : 4096 + (r : ℕ) < 4352 := by omega
  have hJ' : J = ⟨4096 + r, hr⟩ := Fin.ext hJ
  rw [hJ']
  clear hJ hJ' J
  unfold res1
  pointwise

/-- and at a latent row. -/
theorem res1_keep (b : Fin 8) (J : Fin 4352) (hJ : (J : ℕ) < 4096) (e : Fin 6656) :
    res1 x sh sc w p (ix3 b J e) = p (ix3 b J e) := by
  unfold res1
  pointwise [hJ]

/-- The second result at a context row, -/
theorem res2_at (b : Fin 8) (J : Fin 4352) (r : Fin 256) (hJ : (J : ℕ) = 4096 + r) (e : Fin 128) :
    res2 x sh sc w g (ix3 b J e) = gates x sh sc w (ix3 b r e) := by
  have hr : 4096 + (r : ℕ) < 4352 := by omega
  have hJ' : J = ⟨4096 + r, hr⟩ := Fin.ext hJ
  rw [hJ']
  clear hJ hJ' J
  unfold res2
  pointwise

/-- and at a latent row. -/
theorem res2_keep (b : Fin 8) (J : Fin 4352) (hJ : (J : ℕ) < 4096) (e : Fin 128) :
    res2 x sh sc w g (ix3 b J e) = g (ix3 b J e) := by
  unfold res2
  pointwise [hJ]

end Ref

/-! ## What a point leaves -/

/-- The batch entry a point belongs to. -/
def bOf (t : Fin cfg0.N) : Fin 8 := ⟨t.val / 4, by have := lt_of_lt_of_eq t.isLt N_0; omega⟩

theorem base_val (t : Fin cfg0.N) : (base t).val = t.val - t.val % 4 := rfl

/-- A row of the carried block is the token's modulated row. -/
theorem hAt_at (t : Fin cfg0.N) (r : Fin 256) (i : Fin 1024) :
    hAt m c t (ix2 r i) = modul (fun k => aX m c (ix3 (bOf t) r k)) (fun k => aSc m c (ix3 (bOf t) 0 k)) (fun k => aSh m c (ix3 (bOf t) 0 k)) i := by
  have hb : ((bOf t : Fin 8) : ℕ) = (base t).val / 4 := by rw [base_val]; show t.val / 4 = _; omega
  refine (pay4_at _ _ _ r i).trans ?_
  simp only [blk0 m c (base t) _ r hb, blk1 m c (base t) _ hb, blk2 m c (base t) _ hb]

/-- What a point leaves in the first output's block. -/
theorem out5_at (t : Fin cfg0.N) (r : Fin 256) (e : Fin 1664) (k : Fin 6656) (hk : (k : ℕ) = t.val % 4 * 1664 + e) :
    k0_pay2 (hAt m c t) (iblk m c 3 t) (ix3 0 r e) = cols (aX m c) (aSh m c) (aSc m c) (aW m c) (ix3 (bOf t) r k) := by
  refine (pay2_at _ _ r e).trans (Eq.trans ?_ ((cols_at _ _ _ _ _ _ _).trans (px_at _ _ _ _ _ _ _)).symm)
  refine Finset.sum_congr rfl fun i _ => ?_
  rw [hAt_at]
  exact congrArg (_ * ·) ((blk3 m c t i e k hk).trans (V3 m c i k))

/-- What a point leaves in the second output's block. -/
theorem out6_at (t : Fin cfg0.N) (r : Fin 256) (e : Fin 128) :
    abAt m c t (ix3 0 r e) = gates (aX m c) (aSh m c) (aSc m c) (aW m c) (ix3 (bOf t) r e) := by
  have hb : ((bOf t : Fin 8) : ℕ) = (base t).val / 4 := by rw [base_val]; show t.val / 4 = _; omega
  refine (pay1_at _ _ _ _ r e).trans ?_
  simp only [blk0 m c (base t) _ r hb, blk1 m c (base t) _ hb, blk2 m c (base t) _ hb, blk4]
  by_cases he : (e : ℕ) < 32
  · rw [gates_lo _ _ _ _ _ r e he, px_at]
    have h := fun i => V4a m c i ⟨e, he⟩
    simp only [Fin.eta] at h
    simp only [h]
  · rw [gates_hi _ _ _ _ _ r e he]
    have h := fun i => V4b m c i ⟨e - 32, by omega⟩
    have h' : (⟨32 + ((e : ℕ) - 32), by omega⟩ : Fin 128) = e := Fin.ext (by simp only []; omega)
    refine Finset.sum_eq_zero fun i _ => ?_
    rw [← h', h, mul_zero]

/-! ## The arrays after the launch -/

theorem idx5 : ∀ t : Fin cfg0.N, win0_5.index t = ![t.val / 4, 16, t.val % 4] :=
  (by decide +kernel : ∀ t : Fin grid0.N, win0_5.index t = ![t.val / 4, 16, t.val % 4])
theorem idx6 : ∀ t : Fin cfg0.N, win0_6.index t = ![t.val / 4, 16, 0] :=
  (by decide +kernel : ∀ t : Fin grid0.N, win0_6.index t = ![t.val / 4, 16, 0])

/-- An entry of an array of rank three by its coordinates. -/
theorem eq_ix3 {a b d : ℕ} (i : (⟨3, ![a, b, d]⟩ : Shape).Idx) : i = ix3 (i 0) (i 1) (i 2) := by
  funext k
  fin_cases k <;> rfl

/-- The first output array after the launch. -/
theorem final5 : (dats m 0 c).arrAt 5 (cfgs 0).N = res1 (aX m c) (aSh m c) (aSc m c) (aW m c) (aP m c) := by
  refine (dats m 0 c).arrAt_eq_of_coversWhere_of_agree 5 (res1 (aX m c) (aSh m c) (aSc m c) (aW m c) (aP m c))
    (fun β => 16 ≤ β (1 : Fin 3)) (by decide +kernel) (fun t hf y => ?_) (fun j hj => ?_)
  · have ht : t.val < 32 := lt_of_lt_of_eq t.isLt Gen.N_0
    blk_simp
    rw [after0_5]
    have y0 : (y 0).val < 1 := ((win0_5.xinj (grid0.coords t) y) 0).isLt
    have y1 : (y 1).val < 256 := ((win0_5.xinj (grid0.coords t) y) 1).isLt
    have y2 : (y 2).val < 1664 := ((win0_5.xinj (grid0.coords t) y) 2).isLt
    obtain ⟨r, hr⟩ : ∃ r : Fin 256, (r : ℕ) = (y 1).val := ⟨⟨(y 1).val, y1⟩, rfl⟩
    obtain ⟨e, he⟩ : ∃ e : Fin 1664, (e : ℕ) = (y 2).val := ⟨⟨(y 2).val, y2⟩, rfl⟩
    obtain ⟨k, hk⟩ : ∃ k : Fin 6656, (k : ℕ) = t.val % 4 * 1664 + e := ⟨⟨t.val % 4 * 1664 + e, by omega⟩, rfl⟩
    obtain ⟨J, hJ⟩ : ∃ J : Fin 4352, (J : ℕ) = 4096 + r := ⟨⟨4096 + r, by omega⟩, rfl⟩
    have hy : (win0_5.xinj (grid0.coords t) y) = ix3 0 r e := by
      blk_ext
    have hemb : (win0_5.blk t).view.emb y = ix3 (bOf t) J k := by
      unfold bOf
      blk_ext [idx5 t]
    refine Eq.trans ?_ ((congrArg (res1 (aX m c) (aSh m c) (aSc m c) (aW m c) (aP m c)) hemb).trans (res1_at _ _ _ _ _ (bOf t) J r hJ k)).symm
    exact (congrArg (k0_pay2 (hAt m c t) (iblk m c 3 t)) hy).trans (out5_at m c t r e k hk)
  · blk_simp [Pipeline.Window.cell_apply] at hj
    refine (congrFun (A_eq m c 5) _).trans ((V5 m c _).trans ?_)
    generalize hi : (cfg0.win 5).arr.view.emb j = i
    have hi1 : (i 1).val < 4096 := by
      rw [← hi]
      blk_simp
      omega
    rw [eq_ix3 i]
    exact (res1_keep _ _ _ _ _ (i 0) (i 1) hi1 (i 2)).symm

/-- The second output array after the launch. -/
theorem final6 : (dats m 0 c).arrAt 6 (cfgs 0).N = res2 (aX m c) (aSh m c) (aSc m c) (aW m c) (aG m c) := by
  refine (dats m 0 c).arrAt_eq_of_coversWhere_of_agree 6 (res2 (aX m c) (aSh m c) (aSc m c) (aW m c) (aG m c))
    (fun β => 16 ≤ β (1 : Fin 3)) (by decide +kernel) (fun t hf y => ?_) (fun j hj => ?_)
  · have ht : t.val < 32 := lt_of_lt_of_eq t.isLt Gen.N_0
    blk_simp
    rw [after0_6]
    have y0 : (y 0).val < 1 := ((win0_6.xinj (grid0.coords t) y) 0).isLt
    have y1 : (y 1).val < 256 := ((win0_6.xinj (grid0.coords t) y) 1).isLt
    have y2 : (y 2).val < 128 := ((win0_6.xinj (grid0.coords t) y) 2).isLt
    obtain ⟨r, hr⟩ : ∃ r : Fin 256, (r : ℕ) = (y 1).val := ⟨⟨(y 1).val, y1⟩, rfl⟩
    obtain ⟨e, he⟩ : ∃ e : Fin 128, (e : ℕ) = (y 2).val := ⟨⟨(y 2).val, y2⟩, rfl⟩
    obtain ⟨J, hJ⟩ : ∃ J : Fin 4352, (J : ℕ) = 4096 + r := ⟨⟨4096 + r, by omega⟩, rfl⟩
    have hy : (win0_6.xinj (grid0.coords t) y) = ix3 0 r e := by
      blk_ext
    have hemb : (win0_6.blk t).view.emb y = ix3 (bOf t) J e := by
      unfold bOf
      blk_ext [idx6 t]
    refine Eq.trans ?_ ((congrArg (res2 (aX m c) (aSh m c) (aSc m c) (aW m c) (aG m c)) hemb).trans (res2_at _ _ _ _ _ (bOf t) J r hJ e)).symm
    exact (congrArg (abAt m c t) hy).trans (out6_at m c t r e)
  · blk_simp [Pipeline.Window.cell_apply] at hj
    refine (congrFun (A_eq m c 6) _).trans ((V6 m c _).trans ?_)
    generalize hi : (cfg0.win 6).arr.view.emb j = i
    have hi1 : (i 1).val < 4096 := by
      rw [← hi]
      blk_simp
      omega
    rw [eq_ix3 i]
    exact (res2_keep _ _ _ _ _ (i 0) (i 1) hi1 (i 2)).symm

end Cert.Kernel6Ideal.Ctx

end
-- ==== Proof.Ctx.lean ====
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.CtxFinal
public import Idealize.ShloMosaic.Lib.Quiescent

@[expose] public section

noncomputable section

namespace Cert.Proof

open Idealize.ShloMosaic Idealize.ShloMosaic.TcCoe Idealize.SL.Sem Idealize.ShloMosaic.Tactic

/-- The context's in-projection's reference runs, leaves its arguments unchanged and every counter at zero. -/
theorem ctx_reference_frame : Cert.quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run m ρ)

/-- The context's in-projection and its reference compute the same two arrays over the extended reals. -/
theorem ctx_value : Cert.algebraic_Kernel6Ideal_Reference6Ideal (hKernel6Ideal := Cert.Kernel6Ideal.Gen.facts)
    (hReference6Ideal := Cert.Reference6Ideal.Gen.facts) := by
  intro m g m' g' _ hag
  refine ⟨fun c => (Cert.Kernel6Ideal.Ctx.dats m 0 c).arrAt 5 (Cert.Kernel6Ideal.cfgs 0).N,
    fun c => (Cert.Kernel6Ideal.Ctx.dats m 0 c).arrAt 6 (Cert.Kernel6Ideal.cfgs 0).N, ?_, ?_⟩
  · refine (θ_run _ _ _).mono (fun r h c => ?_) (θ_run_and (Cert.Kernel6Ideal.Ctx.run_main m g) (Cert.Kernel6Ideal.Ctx.unchanged m g))
    exact ⟨(h.1 c).1 5, (h.1 c).1 6, h.2 c⟩
  · refine (θ_run _ _ _).mono (fun r h c => ?_) (Cert.Reference6Ideal.Ctx.run' m' g')
    obtain ⟨h0, h1, h2, h3, h4, h5⟩ := hag c
    obtain ⟨e1, e2, e3⟩ := h c
    rw [h0, h1, h2, h3] at e1 e2
    rw [h4] at e1
    rw [h5] at e2
    exact ⟨e1.trans (Cert.Kernel6Ideal.Ctx.final5 m c).symm, e2.trans (Cert.Kernel6Ideal.Ctx.final6 m c).symm, e3⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.On_latent_rows
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Skeleton
public import proofs.«01_k».proof.Proof.Gen.Reference6Ideal
public import proofs.«01_k».proof.Proof.Gen.Reference6Ideal.Run
public import proofs.«01_k».proof.Proof.Scan
public import proofs.«01_k».proof.Proof.ProjFrameBits
public import proofs.«01_k».proof.Proof.Proj
public import proofs.«01_k».proof.Proof.Merge
public import proofs.«01_k».proof.Proof.Ada
public import proofs.«01_k».proof.Proof.Dft
public import proofs.«01_k».proof.Proof.CtxFrameBits
public import proofs.«01_k».proof.Proof.Ctx
public import Idealize.ShloMosaic.Adequacy
public import Idealize.ShloMosaic.Init

@[expose] public section

noncomputable section

namespace Cert.Proof

open Idealize.ShloMosaic Idealize.SL.Sem

/-- Everything the certificate claims: five claims of each of the scan, the in-projection of the latent tokens, the merge,
the modulation, the Fourier branch and the in-projection of the context's tokens. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.On_latent_rows.Gen.facts,
  fun m ρ _ => Cert.Kernel.Gen.frame m ρ, fun m ρ _ => Cert.KernelIdeal.Gen.frame m ρ, scan_reference_frame,
  fun m ρ _ => Cert.Kernel2.Proj.frame m ρ, fun m ρ _ => Cert.Kernel2Ideal.Proj.frame m ρ, proj_reference_frame,
  fun m ρ _ => Cert.Kernel3.Gen.frame m ρ, fun m ρ _ => Cert.Kernel3Ideal.Gen.frame m ρ, merge_reference_frame,
  fun m ρ _ => Cert.Kernel4.Gen.frame m ρ, fun m ρ _ => Cert.Kernel4Ideal.Gen.frame m ρ, ada_reference_frame,
  fun m ρ _ => Cert.Kernel5.Gen.frame m ρ, fun m ρ _ => Cert.Kernel5Ideal.Gen.frame m ρ, dft_reference_frame,
  fun m ρ _ => Cert.Kernel6.Ctx.frame m ρ, fun m ρ _ => Cert.Kernel6Ideal.Ctx.frame m ρ, ctx_reference_frame,
  trivial, scan_value, trivial, proj_value, trivial, merge_value, trivial, ada_value, trivial, dft_value, trivial, ctx_value⟩

end Cert.Proof

end
